-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x100000x1 : Shape := ⟨3, ![128, 100000, 1]⟩
abbrev S1 : Shape := ⟨1, ![1]⟩
abbrev S1x1x1 : Shape := ⟨3, ![1, 1, 1]⟩
abbrev S128x99999 : Shape := ⟨2, ![128, 99999]⟩

class Facts : Prop where
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S_S128x100000 : S_.BroadcastsInDim S128x100000 (![] : Fin 0 → Fin S128x100000.rank)
  shapeCasts_S128x100000_S128x100000x1 : S128x100000.ShapeCasts S128x100000x1
  bcast_S_S128x100000x1 : S_.BroadcastsInDim S128x100000x1 (![] : Fin 0 → Fin S128x100000x1.rank)
  bcast_S1_S1x1x1_2 : S1.BroadcastsInDim S1x1x1 (![2] : Fin 1 → Fin S1x1x1.rank)
  bcast_S1x1x1_S128x100000x1_0_1_2 : S1x1x1.BroadcastsInDim S128x100000x1 (![0, 1, 2] : Fin 3 → Fin S128x100000x1.rank)
  reducesTo_S128x100000x1_S128x100000_d2 : S128x100000x1.ReducesTo [2] S128x100000
  bcast_S_S_ : S_.BroadcastsInDim S_ (![] : Fin 0 → Fin S_.rank)
  reduceWindows_S128x100000_S128x100000_w1s1p0_0_w100000s1p99999_0 : S128x100000.ReduceWindows (![1, 100000] : Fin 2 → Nat) ![1, 1] ![0, 99999] ![0, 0] S128x100000
  slices_S128x100000_S128x99999_0_0 : S128x100000.Slices ![0, 0] S128x99999
  slices_S128x100000_S128x99999_0_1 : S128x100000.Slices ![0, 1] S128x99999
  bcast_S_S128x99999 : S_.BroadcastsInDim S128x99999 (![] : Fin 0 → Fin S128x99999.rank)
  reducesTo_S128x100000_S_d0_1 : S128x100000.ReducesTo [0, 1] S_
  reducesTo_S128x99999_S_d0_1 : S128x99999.ReducesTo [0, 1] S_
  gather_S128x100000_S128x100000x1_S128x100000_n_1_0_0_1_2_11_wf : GatherDims.WF S128x100000 S128x100000x1 S128x100000 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S128x100000_S128x100000x1_S128x100000_n_1_0_0_1_2_11 : GatherDims S128x100000 S128x100000x1 S128x100000 where
  offsetDims := []
  collapsedSliceDims := [1]
  operandBatchingDims := [0]
  startIndicesBatchingDims := [0]
  startIndexMap := [1]
  indexVectorDim := 2
  sliceSizes := ![1, 1]
  wf := gather_S128x100000_S128x100000x1_S128x100000_n_1_0_0_1_2_11_wf

def fn_argsort {F : FTy → Type} [FloatOps F] (arg0 : FVec F S128x100000 .f32) : IVec S128x100000 32 :=
  let v0 : IVec S128x100000 32 := iotaInDim S128x100000 32 1
  let v1_0 : FVec F S128x100000 .f32 := (fun x y => (Host.sort2 S128x100000 1 comparator_f32_i32_d1 x y).1) arg0 v0
  let v1_1 : IVec S128x100000 32 := (fun x y => (Host.sort2 S128x100000 1 comparator_f32_i32_d1 x y).2) arg0 v0
  v1_1

def fn_take_along_axis {F : FTy → Type} [FloatOps F] (arg0 : FVec F S128x100000 .f32) (arg1 : IVec S128x100000 32) : FVec F S128x100000 .f32 :=
  let c : IVec S_ 32 := constantI S_ 32 0#32
  let v0 : IVec S128x100000 32 := broadcastInDim S128x100000 ![] bcast_S_S128x100000 c
  let v1 : IVec S128x100000 1 := cmpi .slt arg1 v0
  let c_0 : IVec S_ 32 := constantI S_ 32 100000#32
  let v2 : IVec S128x100000 32 := broadcastInDim S128x100000 ![] bcast_S_S128x100000 c_0
  let v3 : IVec S128x100000 32 := addi arg1 v2
  let v4 : IVec S128x100000 32 := select v1 v3 arg1
  let v5 : IVec S128x100000x1 32 := shapeCast S128x100000x1 v4 shapeCasts_S128x100000_S128x100000x1
  let c_1 : IVec S1 32 := constantI S1 32 99999#32
  let c_2 : IVec S_ 32 := constantI S_ 32 0#32
  let v6 : IVec S128x100000x1 32 := broadcastInDim S128x100000x1 ![] bcast_S_S128x100000x1 c_2
  let v7 : IVec S128x100000x1 1 := cmpi .sge v5 v6
  let v8 : IVec S1x1x1 32 := broadcastInDim S1x1x1 ![2] bcast_S1_S1x1x1_2 c_1
  let v9 : IVec S128x100000x1 32 := broadcastInDim S128x100000x1 ![0, 1, 2] bcast_S1x1x1_S128x100000x1_0_1_2 v8
  let v10 : IVec S128x100000x1 1 := cmpi .sle v5 v9
  let v11 : IVec S128x100000x1 1 := andi v7 v10
  let c_3 : IVec S_ 1 := constantI S_ 1 1#1
  let v12 : IVec S128x100000 1 := (fun x v => Host.reduce IntOp.andi x v reducesTo_S128x100000x1_S128x100000_d2 h_S_) v11 c_3
  let v13 : FVec F S128x100000 .f32 := (fun x i => Host.gather gather_S128x100000_S128x100000x1_S128x100000_n_1_0_0_1_2_11 x i) arg0 v5
  let cst : FVec F S_ .f32 := constant S_ .f32 0x7FC00000#32
  let v14 : FVec F S128x100000 .f32 := broadcastInDim S128x100000 ![] bcast_S_S128x100000 cst
  let v15 : FVec F S128x100000 .f32 := select v12 v13 v14
  v15

def fn_cumsum_0 {F : FTy → Type} [FloatOps F] (arg0 : FVec F S128x100000 .f32) : FVec F S128x100000 .f32 :=
  let cst : FVec F S_ .f32 := constant S_ .f32 0x00000000#32
  let v0 : FVec F S_ .f32 := broadcastInDim S_ ![] bcast_S_S_ cst
  let v1 : FVec F S128x100000 .f32 := (fun x v => Host.reduceWindowAdd ![1, 100000] ![1, 1] ![0, 99999] ![0, 0] x v reduceWindows_S128x100000_S128x100000_w1s1p0_0_w100000s1p99999_0 h_S_) arg0 v0
  v1

def fn_cumsum {F : FTy → Type} [FloatOps F] (arg0 : FVec F S128x100000 .f32) : FVec F S128x100000 .f32 :=
  let v0 : FVec F S128x100000 .f32 := fn_cumsum_0 (F := F) arg0
  v0

def fn_part2 {F : FTy → Type} [FloatOps F] (main_arg1 : FVec F S_ .f32) (main_v24 : IVec S128x99999 1) (main_v30 : IVec S128x99999 1) (main_v34 : IVec S128x99999 1) (main_v38 : IVec S_ 1) (main_cst_6 : FVec F S_ .f32) : IVec S_ 1 :=
  let main_v39 : IVec S_ 1 := cmpf .oge main_arg1 main_cst_6
  let main_v40 : IVec S_ 1 := andi main_v38 main_v39
  let main_v41 : IVec S128x99999 1 := noti main_v24
  let main_v42 : IVec S128x99999 1 := ori main_v41 main_v30
  let main_v43 : IVec S128x99999 1 := ori main_v42 main_v34
  let main_c_7 : IVec S_ 1 := constantI S_ 1 1#1
  let main_v44 : IVec S_ 1 := (fun x v => Host.reduce IntOp.andi x v reducesTo_S128x99999_S_d0_1 h_S_) main_v43 main_c_7
  let main_v45 : IVec S_ 1 := andi main_v40 main_v44
  main_v45

def fn_part1 {F : FTy → Type} [FloatOps F] (main_arg0 : FVec F S128x100000 .f32) (main_arg1 : FVec F S_ .f32) (main_v15 : FVec F S128x99999 .f32) (main_v16 : FVec F S128x99999 .f32) (main_v19 : IVec S128x99999 1) (main_v20 : FVec F S128x99999 .f32) : IVec S_ 1 :=
  let main_v21 : FVec F S128x99999 .f32 := subf main_v20 main_v15
  let main_v22 : FVec F S128x99999 .f32 := broadcastInDim S128x99999 ![] bcast_S_S128x99999 main_arg1
  let main_v23 : IVec S128x99999 1 := cmpf .ole main_v21 main_v22
  let main_v24 : IVec S128x99999 1 := andi main_v19 main_v23
  let main_cst_2 : FVec F S_ .f32 := constant S_ .f32 0x34000000#32
  let main_v25 : FVec F S128x99999 .f32 := broadcastInDim S128x99999 ![] bcast_S_S128x99999 main_cst_2
  let main_v26 : FVec F S128x99999 .f32 := mulf main_v15 main_v25
  let main_v27 : FVec F S128x99999 .f32 := subf main_v15 main_v26
  let main_cst_3 : FVec F S_ .f32 := constant S_ .f32 0x00000001#32
  let main_v28 : FVec F S128x99999 .f32 := broadcastInDim S128x99999 ![] bcast_S_S128x99999 main_cst_3
  let main_v29 : FVec F S128x99999 .f32 := subf main_v27 main_v28
  let main_v30 : IVec S128x99999 1 := cmpf .ole main_v16 main_v29
  let main_cst_4 : FVec F S_ .f32 := constant S_ .f32 0x4B800000#32
  let main_v31 : FVec F S128x99999 .f32 := broadcastInDim S128x99999 ![] bcast_S_S128x99999 main_cst_4
  let main_v32 : FVec F S128x99999 .f32 := mulf main_v15 main_v31
  let main_v33 : FVec F S128x99999 .f32 := Host.floor main_v32
  let main_v34 : IVec S128x99999 1 := cmpf .oeq main_v32 main_v33
  let main_v35 : FVec F S128x100000 .f32 := Host.absf main_arg0
  let main_cst_5 : FVec F S_ .f32 := constant S_ .f32 0x7F800000#32
  let main_v36 : FVec F S128x100000 .f32 := broadcastInDim S128x100000 ![] bcast_S_S128x100000 main_cst_5
  let main_v37 : IVec S128x100000 1 := cmpf .olt main_v35 main_v36
  let main_c : IVec S_ 1 := constantI S_ 1 1#1
  let main_v38 : IVec S_ 1 := (fun x v => Host.reduce IntOp.andi x v reducesTo_S128x100000_S_d0_1 h_S_) main_v37 main_c
  let main_cst_6 : FVec F S_ .f32 := constant S_ .f32 0x00000000#32
  fn_part2 (F := F) main_arg1 main_v24 main_v30 main_v34 main_v38 main_cst_6

def fn {F : FTy → Type} [FloatOps F] (main_arg0 : FVec F S128x100000 .f32) (main_arg1 : FVec F S_ .f32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0xFF800000#32
  let main_v1 : FVec F S128 .f32 := broadcastInDim S128 ![] bcast_S_S128 main_cst_0
  let main_v2 : FVec F S128 .f32 := maximumf main_v1 main_v0
  let main_v3 : FVec F S128x1 .f32 := broadcastInDim S128x1 ![0] bcast_S128_S128x1_0 main_v2
  let main_v4 : FVec F S128x100000 .f32 := broadcastInDim S128x100000 ![0, 1] bcast_S128x1_S128x100000_0_1 main_v3
  let main_v5 : FVec F S128x100000 .f32 := subf main_arg0 main_v4
  let main_v6 : FVec F S128x100000 .f32 := Host.exp main_v5
  let main_cst_1 : FVec F S_ .f32 := constant S_ .f32 0x00000000#32
  let main_v7 : FVec F S128 .f32 := (fun x v => Host.reduceAdd x v reducesTo_S128x100000_S128_d1 h_S_) main_v6 main_cst_1
  let main_v8 : FVec F S128x1 .f32 := broadcastInDim S128x1 ![0] bcast_S128_S128x1_0 main_v7
  let main_v9 : FVec F S128x100000 .f32 := broadcastInDim S128x100000 ![0, 1] bcast_S128x1_S128x100000_0_1 main_v8
  let main_v10 : FVec F S128x100000 .f32 := Host.divf main_v6 main_v9
  let main_v11 : FVec F S128x100000 .f32 := Host.negf main_v10
  let main_v12 : IVec S128x100000 32 := fn_argsort (F := F) main_v11
  let main_v13 : FVec F S128x100000 .f32 := fn_take_along_axis (F := F) main_v10 main_v12
  let main_v14 : FVec F S128x100000 .f32 := fn_cumsum (F := F) main_v13
  let main_v15 : FVec F S128x99999 .f32 := (extractStridedSlice S128x99999 ![0, 0] · slices_S128x100000_S128x99999_0_0) main_v13
  let main_v16 : FVec F S128x99999 .f32 := (extractStridedSlice S128x99999 ![0, 1] · slices_S128x100000_S128x99999_0_1) main_v13
  let main_v17 : FVec F S128x99999 .f32 := (extractStridedSlice S128x99999 ![0, 0] · slices_S128x100000_S128x99999_0_0) main_v14
  let main_v18 : FVec F S128x99999 .f32 := broadcastInDim S128x99999 ![] bcast_S_S128x99999 main_arg1
  let main_v19 : IVec S128x99999 1 := cmpf .ogt main_v17 main_v18
  let main_v20 : FVec F S128x99999 .f32 := (extractStridedSlice S128x99999 ![0, 0] · slices_S128x100000_S128x99999_0_0) main_v14
  fn_part1 (F := F) main_arg0 main_arg1 main_v15 main_v16 main_v19 main_v20
-- ==== Kernel.lean ====
abbrev S128x100000 : Shape := ⟨2, ![128, 100000]⟩
abbrev S_ : Shape := ⟨0, ![]⟩
abbrev S1 : Shape := ⟨1, ![1]⟩
abbrev S32x100000 : Shape := ⟨2, ![32, 100000]⟩
abbrev S32 : Shape := ⟨1, ![32]⟩
abbrev S32x1 : Shape := ⟨2, ![32, 1]⟩
abbrev S1x32x1 : Shape := ⟨3, ![1, 32, 1]⟩
abbrev S1x1x1 : Shape := ⟨3, ![1, 1, 1]⟩

abbrev nBuf : Space → Nat
  | .hbm => 8
  | .vmem => 4
  | .smem => 1
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S1, .f32⟩
  | .hbm, ⟨3, _⟩ => ⟨S128x100000, .i8⟩
  | .hbm, ⟨4, _⟩ => ⟨S_, .i8⟩
  | .hbm, ⟨5, _⟩ => ⟨S128x100000, .i8⟩
  | .hbm, ⟨6, _⟩ => ⟨S128x100000, .i1⟩
  | .hbm, ⟨7, _⟩ => ⟨S128x100000, .i1⟩
  | .local _ .vmem, ⟨0, _⟩ => ⟨S32x100000, .f32⟩
  | .local _ .vmem, ⟨1, _⟩ => ⟨S32x100000, .f32⟩
  | .local _ .vmem, ⟨2, _⟩ => ⟨S32x100000, .i8⟩
  | .local _ .vmem, ⟨3, _⟩ => ⟨S32x100000, .i8⟩
  | .local _ .smem, ⟨0, _⟩ => ⟨S1, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_4 : BitVec 32 := 0#32
  let c31_i32 : BitVec 32 := 31#32
  let v15 : BitVec 32 := Scalar.addi c0_i32_4 c31_i32
  let c1_i32 : BitVec 32 := 1#32
  ⟨c0_i32_4, v15, c1_i32⟩
@[reducible] def k0_t2_loop : Scf.Loop 32 :=
  let c0_i32_22 : BitVec 32 := 0#32
  let c17_i32 : BitVec 32 := 17#32
  let v74 : BitVec 32 := Scalar.addi c0_i32_22 c17_i32
  let c1_i32_23 : BitVec 32 := 1#32
  ⟨c0_i32_22, v74, c1_i32_23⟩
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x100000 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩
abbrev S128x100000x1 : Shape := ⟨3, ![128, 100000, 1]⟩
abbrev S1 : Shape := ⟨1, ![1]⟩
abbrev S1x1x1 : Shape := ⟨3, ![1, 1, 1]⟩
abbrev S100000 : Shape := ⟨1, ![100000]⟩
abbrev S1x100000 : Shape := ⟨2, ![1, 100000]⟩
abbrev S128x100000x2 : Shape := ⟨3, ![128, 100000, 2]⟩

abbrev nBuf : Space → Nat
  | .hbm => 94
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S_, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S128x1, .f32⟩
  | .hbm, ⟨8, _⟩ => ⟨S128x100000, .f32⟩
  | .hbm, ⟨9, _⟩ => ⟨S128x100000, .f32⟩
  | .hbm, ⟨10, _⟩ => ⟨S128x100000, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S128x100000, .f32⟩
  | .hbm, ⟨15, _⟩ => ⟨S128x100000, .f32⟩
  | .hbm, ⟨16, _⟩ => ⟨S128x100000, .f32⟩
  | .hbm, ⟨17, _⟩ => ⟨S128x100000, .i32⟩
  | .hbm, ⟨18, _⟩ => ⟨S128x100000, .f32⟩
  | .hbm, ⟨19, _⟩ => ⟨S128x100000, .i32⟩
  | .hbm, ⟨20, _⟩ => ⟨S_, .i32⟩
  | .hbm, ⟨21, _⟩ => ⟨S128x100000, .i32⟩
  | .hbm, ⟨22, _⟩ => ⟨S128x100000, .i1⟩
  | .hbm, ⟨23, _⟩ => ⟨S_, .i32⟩
  | .hbm, ⟨24, _⟩ => ⟨S128x100000, .i32⟩
  | .hbm, ⟨25, _⟩ => ⟨S128x100000, .i32⟩
  | .hbm, ⟨26, _⟩ => ⟨S128x100000, .i32⟩
  | .hbm, ⟨27, _⟩ => ⟨S128x100000x1, .i32⟩
  | .hbm, ⟨28, _⟩ => ⟨S1, .i32⟩
  | .hbm, ⟨29, _⟩ => ⟨S_, .i32⟩
  | .hbm, ⟨30, _⟩ => ⟨S128x100000x1, .i32⟩
  | .hbm, ⟨31, _⟩ => ⟨S128x100000x1, .i1⟩
  | .hbm, ⟨32, _⟩ => ⟨S1x1x1, .i32⟩
  | .hbm, ⟨33, _⟩ => ⟨S128x100000x1, .i32⟩
  | .hbm, ⟨34, _⟩ => ⟨S128x100000x1, .i1⟩
  | .hbm, ⟨35, _⟩ => ⟨S128x100000x1, .i1⟩
  | .hbm, ⟨36, _⟩ => ⟨S_, .i1⟩
  | .hbm, ⟨37, _⟩ => ⟨S128x100000, .i1⟩
  | .hbm, ⟨38, _⟩ => ⟨S128x100000, .f32⟩
  | .hbm, ⟨39, _⟩ => ⟨S_, .f32⟩
  | .hbm, ⟨40, _⟩ => ⟨S128x100000, .f32⟩
  | .hbm, ⟨41, _⟩ => ⟨S128x100000, .f32⟩
  | .hbm, ⟨42, _⟩ => ⟨S_, .f32⟩
  | .hbm, ⟨43, _⟩ => ⟨S_, .f32⟩
  | .hbm, ⟨44, _⟩ => ⟨S128x100000, .f32⟩
  | .hbm, ⟨45, _⟩ => ⟨S128x100000, .f32⟩
  | .hbm, ⟨46, _⟩ => ⟨S128x100000, .i1⟩
  | .hbm, ⟨47, _⟩ => ⟨S128x100000, .i32⟩
  | .hbm, ⟨48, _⟩ => ⟨S_, .i32⟩
  | .hbm, ⟨49, _⟩ => ⟨S128, .i32⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .f32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i32⟩
  | .hbm, ⟨65, _⟩ => ⟨S100000, .i32⟩
  | .hbm, ⟨66, _⟩ => ⟨S1x100000, .i32⟩
  | .hbm, ⟨67, _⟩ => ⟨S128x1, .i32⟩
  | .hbm, ⟨68, _⟩ => ⟨S128x100000, .i32⟩
  | .hbm, ⟨69, _⟩ => ⟨S128x100000, .i32⟩
  | .hbm, ⟨70, _⟩ => ⟨S128x100000, .i1⟩
  | .hbm, ⟨71, _⟩ => ⟨S128, .i32⟩
  | .hbm, ⟨72, _⟩ => ⟨S128x1, .i32⟩
  | .hbm, ⟨73, _⟩ => ⟨S_, .i1⟩
  | .hbm, ⟨74, _⟩ => ⟨S128x100000, .i1⟩
  | .hbm, ⟨75, _⟩ => ⟨S_, .i32⟩
  | .hbm, ⟨76, _⟩ => ⟨S128x1, .i32⟩
  | .hbm, ⟨77, _⟩ => ⟨S128x1, .i1⟩
  | .hbm, ⟨78, _⟩ => ⟨S_, .i32⟩
  | .hbm, ⟨79, _⟩ => ⟨S128x1, .i32⟩
  | .hbm, ⟨80, _⟩ => ⟨S128x1, .i32⟩
  | .hbm, ⟨81, _⟩ => ⟨S128x1, .i32⟩
  | .hbm, ⟨82, _⟩ => ⟨S_, .i32⟩
  | .hbm, ⟨83, _⟩ => ⟨S128x100000, .i32⟩
  | .hbm, ⟨84, _⟩ => ⟨S128x100000, .i1⟩
  | .hbm, ⟨85, _⟩ => ⟨S_, .i32⟩
  | .hbm, ⟨86, _⟩ => ⟨S128x100000, .i32⟩
  | .hbm, ⟨87, _⟩ => ⟨S128x100000, .i32⟩
  | .hbm, ⟨88, _⟩ => ⟨S128x100000, .i32⟩
  | .hbm, ⟨89, _⟩ => ⟨S128x100000, .i32⟩
  | .hbm, ⟨90, _⟩ => ⟨S128x100000x1, .i32⟩
  | .hbm, ⟨91, _⟩ => ⟨S128x100000x1, .i32⟩
  | .hbm, ⟨92, _⟩ => ⟨S128x100000x2, .i32⟩
  | .hbm, ⟨93, _⟩ => ⟨S128x100000, .i1⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1_0 : Ref sig .tc := ⟨.hbm, 18, rfl⟩
abbrev main_v12 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v13 : Ref sig .tc := ⟨.hbm, 41, rfl⟩
abbrev main_call2_call0_cst : Ref sig .tc := ⟨.hbm, 42, rfl⟩
abbrev main_call2_call0_v0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_c_3 : Ref sig .tc := ⟨.hbm, 53, rfl⟩
abbrev main_v21 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_c_5 : Ref sig .tc := ⟨.hbm, 58, rfl⟩
abbrev main_call3_v0 : Ref sig .tc := ⟨.hbm, 59, rfl⟩
abbrev main_call3_v1 : Ref sig .tc := ⟨.hbm, 60, rfl⟩
abbrev main_v24 : Ref sig .tc := ⟨.hbm, 61, rfl⟩
abbrev main_c_6 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_7 : Ref sig .tc := ⟨.hbm, 73, rfl⟩
abbrev main_v35 : Ref sig .tc := ⟨.hbm, 74, rfl⟩
abbrev main_c_8 : Ref sig .tc := ⟨.hbm, 75, rfl⟩
abbrev main_v36 : Ref sig .tc := ⟨.hbm, 76, rfl⟩
abbrev main_v37 : Ref sig .tc := ⟨.hbm, 77, rfl⟩
abbrev main_c_9 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_10 : Ref sig .tc := ⟨.hbm, 82, rfl⟩
abbrev main_v41 : Ref sig .tc := ⟨.hbm, 83, rfl⟩
abbrev main_v42 : Ref sig .tc := ⟨.hbm, 84, rfl⟩
abbrev main_c_11 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩

abbrev nD : Nat := 1
abbrev τ : Topo := Topo.v7x

variable {F : FTy → Type} [FloatOps F]
-- ==== Proof.Run.lean ====
/- The run of the kernel over any float values: what the body leaves in the output window, the body's triple, the proof
   data of the one pipeline, and the run of @main with every buffer's contents. -/
module

public import proofs.«01_k».proof.Defs
public import proofs.«01_k».proof.Proof.Gen.KernelIdeal.Frame
public import proofs.«01_k».proof.Proof.Gen.KernelIdeal.Skeleton
public import Idealize.ShloMosaic.Lib.Pipeline.Frame
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The bracket of words after the 31 halvings on the scores' words. -/
def bracket (v0 : Elt F .f32) (v1 : Vec F S32x100000 .f32) : IVec S32x1 32 × IVec S32x1 32 :=
  Scf.fold (n := k0_t1_loop.trips) (fun _ w => (k0_pay16 v0 v1 w.1 w.2, k0_pay17 v0 v1 w.1 w.2)) (k0_pay12, k0_pay13)

/-- The bracket of lanes after the 17 halvings on the lanes. -/
def laneBracket (v21 : IVec S32x100000 1) (v28 v39 v40 : IVec S32x1 32) : IVec S32x1 32 × IVec S32x1 32 :=
  Scf.fold (n := k0_t2_loop.trips) (fun _ w => (k0_pay6 v21 v28 v39 v40 w.1 w.2, k0_pay7 v21 v28 v39 v40 w.1 w.2)) (k0_pay2, k0_pay3)

/-- The branch's condition: some row of the block holds more than one lane of its critical score. -/
def tied (v28 : IVec S32x1 32) : BitVec 1 :=
  Scalar.cmpi .ne (Scalar.extui (Scalar.cmpf .ogt (k0_pay1 (F := F) v28) (Scalar.ofBits .f32 0x00000000#32)) : BitVec 32) 0#32

/-- The last selected lane among those of the critical score, by whichever side of the branch is taken. -/
def lastLane (v21 : IVec S32x100000 1) (v28 v39 v40 : IVec S32x1 32) : IVec S32x1 32 :=
  if tied (F := F) v28 = 1#1 then (laneBracket v21 v28 v39 v40).2 else k0_pay8 v21

/-- On the branch's true side the last selected lane is the bracket's upper end. -/
theorem lastLane_pos (v21 : IVec S32x100000 1) (v28 v39 v40 : IVec S32x1 32) (h : tied (F := F) v28 = 1#1) :
    lastLane (F := F) v21 v28 v39 v40 = (laneBracket v21 v28 v39 v40).2 := if_pos h

/-- On its false side it is the first lane of the critical score. -/
theorem lastLane_neg (v21 : IVec S32x100000 1) (v28 v39 v40 : IVec S32x1 32) (h : ¬ tied (F := F) v28 = 1#1) :
    lastLane (F := F) v21 v28 v39 v40 = k0_pay8 v21 := if_neg h

/-- The block of the mask the body stores, from the quantile and the block of logits. -/
def maskOut (v0 : Elt F .f32) (v1 : Vec F S32x100000 .f32) : Vec F S32x100000 .i8 :=
  k0_pay9 v0 (k0_pay11 v1) (k0_pay19 v1 (bracket v0 v1).1) (k0_pay20 v1 (bracket v0 v1).1)
    (lastLane (F := F) (k0_pay20 v1 (bracket v0 v1).1) (k0_pay21 v1 (bracket v0 v1).1) (k0_pay22 v0 v1 (bracket v0 v1).1) k0_pay23)

/-- The mask on the branch's true side. -/
theorem maskOut_pos (v0 : Elt F .f32) (v1 : Vec F S32x100000 .f32) (h : tied (F := F) (k0_pay21 v1 (bracket v0 v1).1) = 1#1) :
    maskOut v0 v1 = k0_pay9 v0 (k0_pay11 v1) (k0_pay19 v1 (bracket v0 v1).1) (k0_pay20 v1 (bracket v0 v1).1)
      (laneBracket (k0_pay20 v1 (bracket v0 v1).1) (k0_pay21 v1 (bracket v0 v1).1) (k0_pay22 v0 v1 (bracket v0 v1).1) k0_pay23).2 := by
  unfold maskOut; rw [lastLane_pos _ _ _ _ h]

/-- The mask on its false side. -/
theorem maskOut_neg (v0 : Elt F .f32) (v1 : Vec F S32x100000 .f32) (h : ¬ tied (F := F) (k0_pay21 v1 (bracket v0 v1).1) = 1#1) :
    maskOut v0 v1 = k0_pay9 v0 (k0_pay11 v1) (k0_pay19 v1 (bracket v0 v1).1) (k0_pay20 v1 (bracket v0 v1).1)
      (k0_pay8 (k0_pay20 v1 (bracket v0 v1).1)) := by
  unfold maskOut; rw [lastLane_neg _ _ _ _ h]

/-! ## The body's accesses -/

/-- The whole of a window's block. -/
abbrev rAll : Rect S32x100000 := Rect.unit (s := S32x100000) ![0, 0] S32x100000.size inb_S32x100000_S32x100000_0_0

/-- The one scalar of its window. -/
def scalarOf (x0 : Vec F S1 .f32) : Elt F .f32 :=
  View.ld x0 (Rect.unit (s := S1) ![0] S1.size inb_S1_S1_0) (Shape.Idx.first (by decide))

/-- The output window's buffer after the body: the mask, stored over the whole of it. -/
def out0_2 (x0 : Vec F S1 .f32) (x1 : Vec F S32x100000 .f32) : Vec F S32x100000 .i8 :=
  View.canon [⟨rAll, maskOut (scalarOf x0) (View.ld x1 rAll)⟩]

/-- The one store covers the buffer. -/
theorem cover0_2 (p0 : Vec F S32x100000 .i8) (y : S32x100000.Idx) :
    ∃ pc ∈ ([⟨rAll, p0⟩] : List (View.Piece (Elt F) S32x100000 .i8)), y ∈ pc.1.set :=
  View.cover_of_tiled [⟨rAll, p0⟩] S32x100000.size (by rfl) y

/-! ## The body's triple -/

attribute [local irreducible] k0_pay1 k0_pay2 k0_pay3 k0_pay4 k0_pay5 k0_pay6 k0_pay7 k0_pay8 k0_pay9 k0_pay10 k0_pay11
  k0_pay12 k0_pay13 k0_pay14 k0_pay15 k0_pay16 k0_pay17 k0_pay18 k0_pay19 k0_pay20 k0_pay21 k0_pay22 k0_pay23

set_option maxHeartbeats 400000 in
/-- The body on whole staging memrefs, the inputs' at `x0` and `x1` and the output's at anything, runs to the
    continuation holding the inputs' as they were and the output's at `out0_2` of them. -/
theorem sound_kernel (c : Dev nD) (E : Set ℕ) (i : grid0.Coords)
    (arg1 : Memref sig .tc .smem S1 .f32) (harg1 : arg1.IsWhole) (arg2 : Memref sig .tc .vmem S32x100000 .f32) (harg2 : arg2.IsWhole)
    (arg3 : Memref sig .tc .vmem S32x100000 .i8) (harg3 : arg3.IsWhole)
    (x0 : Vec F S1 .f32) (x1 : Vec F S32x100000 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__aps_body i arg1 harg1 arg2 harg2 arg3 harg3) K := by
  simp only [cc0__aps_body_eq_skeleton, k0_part1_eq_skeleton]
  unfold cc0__aps_body_skel
  simp only [k0_part1_eq_skeleton]

  unfold owns
  iintro ⟨⟨%f0, %hf0, H0⟩, ⟨%f1, %hf1, H1⟩, ⟨%d2, %f2, -, H2⟩, Hk⟩
  subst hf0 hf1
  sl_exec
  split
  · rename_i hb
    sl_exec
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    refine (View.read_writes_eq_canon _ _ _ (cover0_2 _)).trans ?_
    refine congrArg (fun z => View.canon [⟨rAll, z⟩]) (Eq.trans ?_ (maskOut_pos _ _ ?_).symm)
    · rfl
    · exact hb
  · rename_i hb
    sl_exec
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    refine (View.read_writes_eq_canon _ _ _ (cover0_2 _)).trans ?_
    refine congrArg (fun z => View.canon [⟨rAll, z⟩]) (Eq.trans ?_ (maskOut_neg _ _ ?_).symm)
    · rfl
    · exact hb

/-! ## The proof data and the body obligation -/

/-- The proof data of the pipeline on core `c`: the arrays as the region finds them; after the body at point `t` each
    input's buffer at its block and the output's at `out0_2` of the blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- The scalar's window is left in place. -/
theorem after0_0 (c : Dev nD) (t : Fin cfg0.N) : (dats m 0 c).after 0 t = iblk m c 0 t := by dsimp only [dats]
/-- The logits' window is left in place. -/
theorem after0_1 (c : Dev nD) (t : Fin cfg0.N) : (dats m 0 c).after 1 t = iblk m c 1 t := by dsimp only [dats]
/-- The output's window holds the mask. -/
theorem after0_2 (c : Dev nD) (t : Fin cfg0.N) : (dats m 0 c).after 2 t = out0_2 (iblk m c 0 t) (iblk m c 1 t) := by
  dsimp only [dats]

/-- The scalar's window holds its block at every point. -/
theorem before0_0 (c : Dev nD) (t : Fin cfg0.N) (d) : (dats m 0 c).before 0 t d = iblk m c 0 t :=
  before0_0_of m (dats m 0 c) (A_eq m c 0) (after0_0 m c) t d
/-- The logits' window holds its block at every point. -/
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's row in the kernel's table of functions. -/
theorem defs₀_row (t : Fin cfg0.N) : defs₀ (F := F) .tc cfg0.body (cfg0.bodyArgs t (cfg0.slots t)) = bodyAt0 t := by
  unfold defs₀; rw [Defs.onTc_tc]

/-- The body obligation of the pipeline. -/
theorem body_obligation (c : Dev nD) : BodyObligation (dats (F := F) m 0 c) defs₀ Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- @main terminates from any memory with zero counters; at the end every array of the pipeline is what the proof data
    say, every other unscoped buffer what the later host lines leave in it, and every counter is zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V0 m) [hostOps1] sfx_sub sfx_fresh sfx_keeps (hmain m Variants.none) (hA := A_eq m)
    (hΦ := fun _ _ => rfl) (Q' := _)

/-- The arguments end as launched. -/
theorem args_of (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).1 1).trans (((dats m 0 c).arrAt_in 1 rfl _).trans ((A_eq m c 1).trans (V_main_arg0 m c))),
    ((h c).2 main_arg1 (Pipeline.mem_restRefs_of main_arg1 (by decide) (by decide))).trans (W_main_arg1 m (dats m) c)⟩

end Cert.KernelIdeal.Hand

end
-- ==== Proof.Frames.lean ====
/- The frames: both kernel programs from the one run over any float values, and the reference from its generated run. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem

/-- The kernel at the ideal instance terminates, keeps its arguments and leaves every counter at zero. -/
theorem frame_kernelIdeal : Cert.quiescent_KernelIdeal := fun m ρ _ =>
  (θ_run Cert.KernelIdeal.defs _ _).mono (fun r h => ⟨Cert.KernelIdeal.Hand.args_of m r h.1, h.2⟩)
    (Cert.KernelIdeal.Hand.run_main (F := Ideal) m ρ)

section
variable {F : FTy → Type} [FloatOps F]

/-- The two programs' body is one text. -/
theorem body_eq : @Cert.Kernel.cc0__aps_body F _ _ = @Cert.KernelIdeal.cc0__aps_body F _ _ := rfl

/-- So is their table of bodies, -/
theorem defs₀_eq : @Cert.Kernel.defs₀ F _ _ = @Cert.KernelIdeal.defs₀ F _ _ := by
  unfold Cert.Kernel.defs₀ Cert.KernelIdeal.defs₀
  congr 1
  funext l x
  obtain ⟨_ | n, h⟩ := l
  · exact congrFun (congrFun (congrFun (congrFun (congrFun (congrFun (congrFun body_eq _) _) _) _) _) _) _
  · exact absurd h (Nat.not_lt.2 (Nat.le_add_left _ _))

/-- and their table of functions. -/
theorem defs_eq : @Cert.Kernel.defs F _ _ = @Cert.KernelIdeal.defs F _ _ := by
  unfold Cert.Kernel.defs Cert.KernelIdeal.defs
  rw [defs₀_eq]
  rfl

end

/-- The kernel at its machine words does the same: the two programs are one text. -/
theorem frame_kernel : Cert.quiescent_Kernel := fun m ρ _ => by
  rw [defs_eq]
  exact (θ_run Cert.KernelIdeal.defs _ _).mono (fun r h => ⟨Cert.KernelIdeal.Hand.args_of m r h.1, h.2⟩)
    (Cert.KernelIdeal.Hand.run_main (F := Bits) m ρ)

/-- The reference terminates, keeps its arguments and leaves every counter at zero: it declares no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Result.lean ====
module

public import proofs.«01_k».proof.Proof.Run
public import proofs.«01_k».proof.Proof.Gen.KernelIdeal.Points
public import Idealize.ShloMosaic.Lib.Pipeline.Value
public import Idealize.ShloMosaic.Lib.StableHlo.RunRead

/-!
# The kernel's results

The array the launch writes, block by block, as one function of the logits and the level, and the mask
the later host lines make of it.
-/

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- Row `i` of block `t`. -/
def rowAt (t : Fin 4) (i : Fin 32) : Fin 128 := ⟨32 * t.val + i.val, by omega⟩

/-- The block a row lies in, -/
def blockOf (R : Fin 128) : Fin 4 := ⟨R.val / 32, by omega⟩
/-- and its place there. -/
def inBlock (R : Fin 128) : Fin 32 := ⟨R.val % 32, by omega⟩

theorem rowAt_blockOf (R : Fin 128) : rowAt (blockOf R) (inBlock R) = R :=
  Fin.ext (Nat.div_add_mod R.val 32)

theorem blockOf_rowAt (t : Fin 4) (i : Fin 32) : blockOf (rowAt t i) = t :=
  Fin.ext (by show (32 * t.val + i.val) / 32 = t.val; omega)

theorem inBlock_rowAt (t : Fin 4) (i : Fin 32) : inBlock (rowAt t i) = i :=
  Fin.ext (by show (32 * t.val + i.val) % 32 = i.val; omega)

/-- Block `t` of the logits. -/
def rowsOf (x : Vec F S128x100000 .f32) (t : Fin 4) : Vec F S32x100000 .f32 :=
  fun i => x (ix2 (rowAt t (i 0)) (i 1))

/-- The array the launch writes. -/
def written (x : Vec F S128x100000 .f32) (q : Elt F .f32) : Vec F S128x100000 .i8 :=
  fun i => maskOut q (rowsOf x (blockOf (i 0))) (ix2 (inBlock (i 0)) (i 1))

attribute [local irreducible] maskOut

/-- The level, reshaped before the launch. -/
theorem V_main_v0 (c : Dev nD) (i : S1.Idx) :
    V m c main_v0 i = m ((c : Thread nD τ).loc main_arg1) ix0 := by
  show StableHlo.after (List.flatten [hostOps0]) (fun b => m (c, b)) (Proc.devRef .tc main_v0) i = _
  simp only [hostOps0, List.flatten_cons, List.flatten_nil, List.append_nil, StableHlo.after_cons, StableHlo.after_nil]
  show m ((c : Thread nD τ).loc main_arg1) _ = _
  congr 1

/-- The blocks' positions. -/
theorem index0_1 (t : Fin cfg0.N) : win0_1.index t 0 = t.val ∧ win0_1.index t 1 = 0 := by
  rcases fin_N0 t with rfl | rfl | rfl | rfl <;> decide
theorem index0_2 (t : Fin cfg0.N) : win0_2.index t 0 = t.val ∧ win0_2.index t 1 = 0 := by
  rcases fin_N0 t with rfl | rfl | rfl | rfl <;> decide

/-- A grid point as a block number. -/
def pt (t : Fin cfg0.N) : Fin 4 := t.cast N_0

/-- Two blocks agree when they agree row by row and lane by lane. -/
theorem block_ext {α : Type} {f g : S32x100000.Idx → α}
    (h : ∀ (r : Fin 32) (k : Fin 100000), f (ix2 r k) = g (ix2 r k)) : f = g := by
  funext j
  have e : (ix2 (j 0) (j 1) : S32x100000.Idx) = j := by
    funext a
    match a with
    | ⟨0, _⟩ => rfl
    | ⟨1, _⟩ => rfl
  have := h (j 0) (j 1)
  rwa [e] at this

theorem emb1 (t : Fin cfg0.N) (r : Fin 32) (k : Fin 100000) :
    ((cfg0.win 1).blk t).view.emb (ix2 r k : S32x100000.Idx) = ix2 (rowAt (pt t) r) k := by
  obtain ⟨e0, e1⟩ := index0_1 t
  funext a; apply Fin.ext
  match a with
  | ⟨0, _⟩ => show win0_1.index t (0 : Fin 2) * 32 + 1 * r.val = 32 * t.val + r.val; omega
  | ⟨1, _⟩ => show win0_1.index t (1 : Fin 2) * 100000 + 1 * k.val = k.val; omega

theorem emb2 (t : Fin cfg0.N) (r : Fin 32) (k : Fin 100000) :
    ((cfg0.win 2).blk t).view.emb (ix2 r k : S32x100000.Idx) = ix2 (rowAt (pt t) r) k := by
  obtain ⟨e0, e1⟩ := index0_2 t
  funext a; apply Fin.ext
  match a with
  | ⟨0, _⟩ => show win0_2.index t (0 : Fin 2) * 32 + 1 * r.val = 32 * t.val + r.val; omega
  | ⟨1, _⟩ => show win0_2.index t (1 : Fin 2) * 100000 + 1 * k.val = k.val; omega

/-- The scalar's block holds the level. -/
theorem scalar_block (c : Dev nD) (t : Fin cfg0.N) :
    scalarOf (iblk m c 0 t) = m ((c : Thread nD τ).loc main_arg1) ix0 := V_main_v0 m c _

/-- The logits' block holds the block's rows. -/
theorem logits_block (c : Dev nD) (t : Fin cfg0.N) :
    iblk m c 1 t = rowsOf (m ((c : Thread nD τ).loc main_arg0)) (pt t) := by
  refine block_ext fun r k => ?_
  show V m c main_arg0 (((cfg0.win 1).blk t).view.emb (ix2 r k : S32x100000.Idx)) = _
  rw [emb1, V_main_arg0]
  rfl

theorem out_eq (x0 : Vec F S1 .f32) (x1 : Vec F S32x100000 .f32) : out0_2 x0 x1 = maskOut (scalarOf x0) x1 := by
  have hz : (![0, 0] : Fin S32x100000.rank → ℕ) = fun _ => 0 := funext fun a => by fin_cases a <;> rfl
  unfold out0_2
  rw [View.canon_unit_zero hz, View.ld_unit_zero hz]

/-- A block of the array `written`. -/
theorem written_block (x : Vec F S128x100000 .f32) (q : Elt F .f32) (t : Fin 4) (r : Fin 32) (k : Fin 100000) :
    written x q (ix2 (rowAt t r) k) = maskOut q (rowsOf x t) (ix2 r k) := by
  show maskOut q (rowsOf x (blockOf (rowAt t r))) (ix2 (inBlock (rowAt t r)) k) = _
  rw [blockOf_rowAt, inBlock_rowAt]

/-- What a point writes back is its block of the array `written`. -/
theorem flushed_eq (c : Dev nD) (t : Fin cfg0.N) :
    (dats m 0 c).flushed 2 t = ((cfg0.win 2).blk t).view.read (Elt F)
      (written (m ((c : Thread nD τ).loc main_arg0)) (m ((c : Thread nD τ).loc main_arg1) ix0)) := by
  show (cfg0.win 2).cut (grid0.coords t) ((dats m 0 c).after 2 t) = _
  rw [after0_2, out_eq, scalar_block, logits_block]
  refine block_ext (f := maskOut _ _) fun r k => ?_
  show maskOut _ _ _ = written _ _ (((cfg0.win 2).blk t).view.emb (ix2 r k : S32x100000.Idx))
  rw [emb2]
  exact (written_block _ _ _ _ _).symm

/-- The points' blocks cover the array. -/
theorem covered_row (R : Fin 128) (k : Fin 100000) :
    ∃ t : Fin cfg0.N, (cfg0.win 2).flush t = true ∧ (ix2 R k : S128x100000.Idx) ∈ ((cfg0.win 2).blk t).view.set := by
  refine ⟨(blockOf R).cast N_0.symm, flush0_2 _, ?_⟩
  have h := ((cfg0.win 2).blk ((blockOf R).cast N_0.symm)).view.emb_mem_set (ix2 (inBlock R) k : S32x100000.Idx)
  rw [emb2, show pt ((blockOf R).cast N_0.symm) = blockOf R from rfl, rowAt_blockOf] at h
  exact h

theorem covered (i : S128x100000.Idx) :
    ∃ t : Fin cfg0.N, (cfg0.win 2).flush t = true ∧ i ∈ ((cfg0.win 2).blk t).view.set := by
  have e : (ix2 (i 0) (i 1) : S128x100000.Idx) = i := by
    funext a
    match a with
    | ⟨0, _⟩ => rfl
    | ⟨1, _⟩ => rfl
  have h := covered_row (i 0) (i 1)
  rwa [e] at h

/-- The array the launch leaves. -/
theorem final_v1 (c : Dev nD) : (dats m 0 c).arrAt 2 cfg0.N
    = written (m ((c : Thread nD τ).loc main_arg0)) (m ((c : Thread nD τ).loc main_arg1) ix0) :=
  (dats m 0 c).arrAt_eq_of_cover 2 _ (fun t _ => flushed_eq m c t) covered

/-- The mask: where the array the launch leaves is not zero. -/
def maskKernel (x : Vec F S128x100000 .f32) (q : Elt F .f32) : IVec S128x100000 1 :=
  cmpi .ne (written x q) (broadcastInDim S128x100000 ![] bcast_S_S128x100000 (constantI S_ 8 0#8))

theorem tail_v4 (c : Dev nD) :
    Pipeline.afterTail₀ cfgs (dats m) 0 (V0 m) [hostOps1] c main_v4
      = maskKernel (m ((c : Thread nD τ).loc main_arg0)) (m ((c : Thread nD τ).loc main_arg1) ix0) := by
  have h1 : Pipeline.withArrays (cfgs 0).spec c (V0 m c) (fun w => (dats m 0 c).arrAt w (cfgs 0).N) (Proc.devRef .tc main_v1)
      = written (m ((c : Thread nD τ).loc main_arg0)) (m ((c : Thread nD τ).loc main_arg1) ix0) :=
    (Pipeline.withArrays_arr spec0 (by decide) c (V0 m c) _ 2).trans (final_v1 m c)
  unfold Pipeline.afterTail₀
  generalize Pipeline.withArrays (cfgs 0).spec c (V0 m c) (fun w => (dats m 0 c).arrAt w (cfgs 0).N) = W at h1
  unfold maskKernel
  rw [← h1]
  simp only [hostOps1, List.flatten_cons, List.flatten_nil, List.append_nil, StableHlo.after_cons, StableHlo.after_nil]
  rfl

/-- The run with the kernel's results read. -/
theorem run_read : θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v4)
        = maskKernel (m ((c.tc : Thread nD τ).loc main_arg0)) (m ((c.tc : Thread nD τ).loc main_arg1) ix0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(args_of m r h.1 c).1,
      ((h.1 c).2 main_v4 (Pipeline.mem_restRefs_of main_v4 (by decide) (by decide))).trans (tail_v4 m c),
      args_of m r h.1 c⟩) (run_main m ρ)

end Cert.KernelIdeal.Hand

end
-- ==== Proof.Softmax.lean ====
module

public import Idealize.ShloMosaic.PureOps.Ideal
public import Idealize.ShloMosaic.Lib.IdealHost

/-!
# A row's softmax at the ideal instance

The scores of a row of finite logits are positive reals of sum one.
-/

@[expose] public section

namespace Idealize.ShloMosaic.SoftmaxRow

open Idealize.ShloMosaic

noncomputable section

/-- The row maximum. -/
def top {C : ℕ} (g : Fin C → EReal) : EReal := (Finset.univ : Finset (Fin C)).fold max ⊥ g

/-- The row's softmax: each logit less the maximum, exponentiated, over their sum. -/
def soft {C : ℕ} (g : Fin C → EReal) (j : Fin C) : EReal :=
  Ideal.div (Ideal.exp (g j - top g)) (∑ x, Ideal.exp (g x - top g))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a row of finite logits is finite. -/
theorem top_real {C : ℕ} (hC : 0 < C) (g : Fin C → EReal) (a : Fin C → ℝ) (hg : ∀ j, g j = (a j : EReal)) :
    ∃ m : ℝ, top g = (m : EReal) := by
  have h1 : top g < ⊤ := by
    unfold top
    rw [Finset.fold_max_lt]
    exact ⟨bot_lt_top, fun j _ => by rw [hg]; exact EReal.coe_lt_top _⟩
  have h2 : ⊥ < top g := by
    unfold top
    rw [Finset.lt_fold_max]
    exact .inr ⟨⟨0, hC⟩, Finset.mem_univ _, by rw [hg]; exact EReal.bot_lt_coe _⟩
  exact ⟨(top g).toReal, (EReal.coe_toReal h1.ne h2.ne').symm⟩

/-- The scores of a row of finite logits. -/
theorem soft_real {C : ℕ} (hC : 0 < C) (g : Fin C → EReal) (a : Fin C → ℝ) (hg : ∀ j, g j = (a j : EReal)) :
    ∃ σ : Fin C → ℝ, (∀ j, soft g j = (σ j : EReal)) ∧ (∀ j, 0 < σ j) ∧ ∑ j, σ j = 1 := by
  obtain ⟨m, hm⟩ := top_real hC g a hg
  have he : ∀ j, Ideal.exp (g j - top g) = ((Real.exp (a j - m) : ℝ) : EReal) := fun j => by
    rw [hg, hm, ← EReal.coe_sub]
    rfl
  have hpos : 0 < ∑ x, Real.exp (a x - m) :=
    Finset.sum_pos (fun x _ => Real.exp_pos _) ⟨⟨0, hC⟩, Finset.mem_univ _⟩
  refine ⟨fun j => Real.exp (a j - m) / ∑ x, Real.exp (a x - m), fun j => ?_, fun j => ?_, ?_⟩
  · unfold soft
    simp only [he]
    rw [← coe_sum, Ideal.div_coe hpos.ne', ← EReal.coe_mul, one_div]
    rfl
  · exact div_pos (Real.exp_pos _) hpos
  · rw [← Finset.sum_div, div_self hpos.ne']

end

end Idealize.ShloMosaic.SoftmaxRow
-- ==== Proof.Grid.lean ====
module

public import Idealize.ShloMosaic.PureOps.Ideal
public import Mathlib.Tactic.Linarith
public import Mathlib.Tactic.NormNum
public import Mathlib.Tactic.Positivity
public import Mathlib.Tactic.Ring
public import Mathlib.Algebra.Order.BigOperators.Group.Finset

/-!
# The non-negative binary32 numbers as a grid of reals

`gridVal n` is the real number that the binary32 word with the bit pattern `n` denotes, for the
finite non-negative words. The lemmas say how far apart two neighbours of the grid are, and that
no multiple of `2 ^ (-24)` up to one lies strictly between two neighbours.
-/

@[expose] public section

namespace Cert.KernelIdeal.Hand

open Idealize.ShloMosaic

/-- The exponent field of the word `n`, with the subnormal words counted to the lowest binade. -/
def expo (n : ℕ) : ℕ := max (n / 2 ^ 23) 1

/-- The real number denoted by the non-negative binary32 word `n`. -/
noncomputable def gridVal (n : ℕ) : ℝ :=
  ((n : ℝ) - ((expo n : ℝ) - 1) * 2 ^ 23) * (2 : ℝ) ^ ((expo n : ℤ) - 150)

theorem one_le_expo (n : ℕ) : 1 ≤ expo n := le_max_right _ _

/-- A finite non-negative word denotes its grid value. -/
theorem ieee_gridVal (b : BitVec 32) (h : b.toNat < 255 * 2 ^ 23) :
    Ideal.ieee 8 23 b = ((gridVal b.toNat : ℝ) : EReal) := by
  have hneg : (b.extractLsb' 31 1 == 1#1) = false := by
    have : (b.extractLsb' 31 1).toNat = 0 := by
      simp only [BitVec.extractLsb'_toNat, Nat.shiftRight_eq_div_pow]
      omega
    rw [beq_eq_false_iff_ne]
    intro h1
    rw [h1] at this
    exact absurd this (by decide)
  have hex : (b.extractLsb' 23 8).toNat = b.toNat / 2 ^ 23 := by
    simp only [BitVec.extractLsb'_toNat, Nat.shiftRight_eq_div_pow]
    omega
  have hfr : (b.extractLsb' 0 23).toNat = b.toNat % 2 ^ 23 := by
    simp only [BitVec.extractLsb'_toNat, Nat.shiftRight_zero]
  unfold Ideal.ieee
  simp only [Nat.reduceAdd, hneg, hex, hfr]
  have hdm := Nat.div_add_mod b.toNat (2 ^ 23)
  generalize b.toNat = n at *
  have hq : n / 2 ^ 23 < 255 := by omega
  generalize hQ : n / 2 ^ 23 = q at *
  generalize hR : n % 2 ^ 23 = r at *
  rw [if_neg (by omega)]
  unfold gridVal expo
  rw [hQ]
  have hn : (n : ℝ) = 2 ^ 23 * q + r := by rw [← hdm]; push_cast; ring
  by_cases h0 : q = 0
  · subst h0
    rw [if_pos rfl]
    norm_num [hn]
  · rw [if_neg h0, max_eq_left (by omega)]
    have hz : ((q : ℤ) - (2 ^ (8 - 1) - 1) - ((23 : ℕ) : ℤ)) = (q : ℤ) - 150 := by
      norm_num; ring
    rw [hz]
    congr 1
    generalize (2 : ℝ) ^ ((q : ℤ) - 150) = u
    rw [hn]
    push_cast
    ring

/-- The next word's value is one unit in the last place up. -/
theorem gridVal_succ (n : ℕ) : gridVal (n + 1) = gridVal n + (2 : ℝ) ^ ((expo n : ℤ) - 150) := by
  unfold gridVal
  have h2 : expo (n + 1) = expo n ∨ (expo (n + 1) = expo n + 1 ∧ n + 1 = (expo n + 1) * 2 ^ 23) := by
    unfold expo; omega
  rcases h2 with h | ⟨h, hn⟩
  · rw [h]; push_cast; ring
  · rw [h]
    have hn' : (n : ℝ) + 1 = ((expo n : ℝ) + 1) * 2 ^ 23 := by exact_mod_cast hn
    have hz : (2 : ℝ) ^ (((expo n + 1 : ℕ) : ℤ) - 150) = 2 * (2 : ℝ) ^ ((expo n : ℤ) - 150) := by
      rw [show (((expo n + 1 : ℕ) : ℤ) - 150) = 1 + ((expo n : ℤ) - 150) by push_cast; ring,
        zpow_add₀ (by norm_num), zpow_one]
    rw [hz]
    have hn2 : (n : ℝ) = ((expo n : ℝ) + 1) * 2 ^ 23 - 1 := by linarith
    push_cast
    rw [hn2]
    ring

theorem gridVal_lt_succ (n : ℕ) : gridVal n < gridVal (n + 1) := by
  rw [gridVal_succ]
  have : (0 : ℝ) < (2 : ℝ) ^ ((expo n : ℤ) - 150) := by positivity
  linarith

theorem gridVal_zero : gridVal 0 = 0 := by
  unfold gridVal expo; norm_num

theorem gridVal_strictMono : StrictMono gridVal := strictMono_nat_of_lt_succ gridVal_lt_succ

theorem gridVal_nonneg (n : ℕ) : 0 ≤ gridVal n := by
  rw [← gridVal_zero]; exact gridVal_strictMono.monotone (Nat.zero_le n)

/-- Two neighbours are at most `2 ^ (-23)` of the lower one apart, or `2 ^ (-149)`. -/
theorem gridVal_gap (n : ℕ) :
    gridVal (n + 1) ≤ gridVal n + gridVal n * (2 : ℝ) ^ (-23 : ℤ) ∨
      gridVal (n + 1) = gridVal n + (2 : ℝ) ^ (-149 : ℤ) := by
  rw [gridVal_succ]
  by_cases h : n < 2 ^ 23
  · right
    have : expo n = 1 := by unfold expo; omega
    rw [this]; norm_num
  · left
    have he : expo n * 2 ^ 23 ≤ n := by unfold expo; omega
    have he' : (expo n : ℝ) * 2 ^ 23 ≤ n := by exact_mod_cast he
    have hp : (0 : ℝ) < (2 : ℝ) ^ ((expo n : ℤ) - 150) := by positivity
    have hv : 2 ^ 23 * (2 : ℝ) ^ ((expo n : ℤ) - 150) ≤ gridVal n := by
      unfold gridVal
      apply mul_le_mul_of_nonneg_right _ hp.le
      linarith
    have : (2 : ℝ) ^ ((expo n : ℤ) - 150) =
        2 ^ 23 * (2 : ℝ) ^ ((expo n : ℤ) - 150) * (2 : ℝ) ^ (-23 : ℤ) := by
      generalize (2 : ℝ) ^ ((expo n : ℤ) - 150) = u
      norm_num
      ring
    have h3 : (0 : ℝ) ≤ (2 : ℝ) ^ (-23 : ℤ) := by positivity
    have := mul_le_mul_of_nonneg_right hv h3
    linarith

/-- The word of one. -/
theorem gridVal_one : gridVal 0x3F800000 = 1 := by
  unfold gridVal expo; norm_num

/-- No multiple of `2 ^ (-24)` up to one lies strictly between two neighbours. -/
theorem no_dyadic_between (n : ℕ) (x : ℝ) (k : ℤ) (hx : x * 2 ^ 24 = k) (h1 : x ≤ 1)
    (hlo : gridVal n < x) (hhi : x < gridVal (n + 1)) : False := by
  by_cases hn : 0x3F800000 ≤ n
  · have := gridVal_strictMono.monotone hn
    rw [gridVal_one] at this
    linarith
  · have he : expo n ≤ 126 := by unfold expo; omega
    obtain ⟨d, hd⟩ : ∃ d, expo n + d = 126 := ⟨126 - expo n, by omega⟩
    rw [gridVal_succ] at hhi
    have hp : (0 : ℝ) < (2 : ℝ) ^ ((expo n : ℤ) - 150) := by positivity
    have hu : (2 : ℝ) ^ ((expo n : ℤ) - 150) * 2 ^ d * 2 ^ 24 = 1 := by
      rw [← zpow_natCast (2 : ℝ) d, ← zpow_add₀ (by norm_num),
        show ((expo n : ℤ) - 150 + d) = -24 by omega]
      norm_num
    generalize hU : (2 : ℝ) ^ ((expo n : ℤ) - 150) = u at *
    have hxu : x = k * 2 ^ d * u := by
      have : x * (u * 2 ^ d * 2 ^ 24) = x := by rw [hu, mul_one]
      rw [← this, ← hx]; ring
    obtain ⟨M, hM⟩ : ∃ M : ℤ, gridVal n = M * u :=
      ⟨(n : ℤ) - ((expo n : ℤ) - 1) * 2 ^ 23, by unfold gridVal; rw [hU]; push_cast; ring⟩
    rw [hM] at hlo hhi
    rw [hxu] at hlo hhi
    have h1 : (M : ℝ) < k * 2 ^ d := lt_of_mul_lt_mul_right hlo hp.le
    have h2 : (k : ℝ) * 2 ^ d < M + 1 := by
      apply lt_of_mul_lt_mul_right _ hp.le
      linarith
    have h1' : M < k * 2 ^ d := by exact_mod_cast h1
    have h2' : k * 2 ^ d < M + 1 := by exact_mod_cast h2
    omega

end Cert.KernelIdeal.Hand
-- ==== Proof.Rank.lean ====
module

public import proofs.«01_k».proof.Proof.Grid

/-!
# The order in which a row's scores are taken, and the critical score

`ahead σ k i` says that the score at `k` is taken before the score at `i`: it is greater, or equal
and stands further left. `above σ i` is the sum of all scores taken before `i`. The main lemma
describes the scores taken while the sum of the earlier ones is at most `Q` through the grid value
between whose two neighbouring sums `Q` lies.
-/

@[expose] public section

namespace Cert.KernelIdeal.Hand

open scoped Classical in
/-- The score at `k` is taken before the score at `i`. -/
def ahead {n : ℕ} (σ : Fin n → ℝ) (k i : Fin n) : Prop := σ i < σ k ∨ (σ k = σ i ∧ k < i)

open scoped Classical in
/-- The sum of the scores taken before `i`. -/
noncomputable def above {n : ℕ} (σ : Fin n → ℝ) (i : Fin n) : ℝ :=
  ∑ k ∈ Finset.univ.filter (fun k => ahead σ k i), σ k

open scoped Classical in
/-- The sum of the scores that reach `t`. -/
noncomputable def tailSum {n : ℕ} (σ : Fin n → ℝ) (t : ℝ) : ℝ :=
  ∑ k ∈ Finset.univ.filter (fun k => t ≤ σ k), σ k

open scoped Classical in
/-- The sum of the scores that exceed `t`. -/
noncomputable def overSum {n : ℕ} (σ : Fin n → ℝ) (t : ℝ) : ℝ :=
  ∑ k ∈ Finset.univ.filter (fun k => t < σ k), σ k

variable {n : ℕ} {σ : Fin n → ℝ}

theorem ahead_irrefl (i : Fin n) : ¬ ahead σ i i := by
  rintro (h | ⟨_, h⟩)
  · exact lt_irrefl _ h
  · exact lt_irrefl _ h

theorem ahead_trans {i j k : Fin n} (h : ahead σ i j) (h' : ahead σ j k) : ahead σ i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem ahead_total (i j : Fin n) : i = j ∨ ahead σ i j ∨ ahead σ j i := by
  unfold ahead
  rcases lt_trichotomy (σ i) (σ j) with h | h | h
  · exact .inr (.inr (.inl h))
  · rcases lt_trichotomy i j with h' | h' | h'
    · exact .inr (.inl (.inr ⟨h, h'⟩))
    · exact .inl h'
    · exact .inr (.inr (.inr ⟨h.symm, h'⟩))
  · exact .inr (.inl (.inl h))

theorem ahead_le {i j : Fin n} (h : ahead σ i j) : σ j ≤ σ i := by
  rcases h with h | ⟨h, _⟩
  · exact h.le
  · exact h.ge

open scoped Classical in
/-- What is taken before `i`, and `i`, is all taken before a later `j`. -/
theorem above_add_le (hpos : ∀ i, 0 < σ i) {i j : Fin n} (h : ahead σ i j) :
    above σ i + σ i ≤ above σ j := by
  unfold above
  rw [add_comm, ← Finset.sum_insert (s := Finset.univ.filter fun k => ahead σ k i)
    (by simp [ahead_irrefl])]
  apply Finset.sum_le_sum_of_subset_of_nonneg
  · intro k hk
    simp only [Finset.mem_insert, Finset.mem_filter, Finset.mem_univ, true_and] at hk ⊢
    rcases hk with rfl | hk
    · exact h
    · exact ahead_trans hk h
  · intro k _ _
    exact (hpos k).le

theorem above_lt (hpos : ∀ i, 0 < σ i) {i j : Fin n} (h : ahead σ i j) : above σ i < above σ j := by
  have := above_add_le hpos h
  have := hpos i
  linarith

open scoped Classical in
/-- Between zero and the total there is a critical score: the sum before it is at most `Q`, the sum
with it exceeds `Q`. -/
theorem exists_critical (hpos : ∀ i, 0 < σ i) {Q : ℝ} (hQ0 : 0 ≤ Q) (hQ1 : Q < ∑ i, σ i) :
    ∃ c, above σ c ≤ Q ∧ Q < above σ c + σ c := by
  have hne : (Finset.univ.filter fun i => above σ i ≤ Q).Nonempty := by
    have hu : (Finset.univ : Finset (Fin n)).Nonempty := by
      by_contra hu
      rw [Finset.not_nonempty_iff_eq_empty] at hu
      rw [hu, Finset.sum_empty] at hQ1
      linarith
    obtain ⟨i, _, hi⟩ := Finset.exists_min_image Finset.univ (above σ) hu
    refine ⟨i, ?_⟩
    simp only [Finset.mem_filter, Finset.mem_univ, true_and]
    have : (Finset.univ.filter fun k => ahead σ k i) = ∅ := by
      rw [Finset.filter_eq_empty_iff]
      intro k _ hk
      exact absurd (hi k (Finset.mem_univ _)) (not_le.2 (above_lt hpos hk))
    unfold above
    rw [this, Finset.sum_empty]
    exact hQ0
  obtain ⟨c, hc, hmax⟩ := Finset.exists_max_image _ (above σ) hne
  simp only [Finset.mem_filter, Finset.mem_univ, true_and] at hc hmax
  refine ⟨c, hc, ?_⟩
  by_contra hlt
  rw [not_lt] at hlt
  by_cases hb : (Finset.univ.filter fun j => ahead σ c j).Nonempty
  · obtain ⟨j, hj, hmin⟩ := Finset.exists_min_image _ (above σ) hb
    simp only [Finset.mem_filter, Finset.mem_univ, true_and] at hj hmin
    have hset : (Finset.univ.filter fun k => ahead σ k j) =
        insert c (Finset.univ.filter fun k => ahead σ k c) := by
      ext k
      simp only [Finset.mem_insert, Finset.mem_filter, Finset.mem_univ, true_and]
      constructor
      · intro hk
        rcases ahead_total (σ := σ) k c with h | h | h
        · exact .inl h
        · exact .inr h
        · exact absurd (hmin k h) (not_le.2 (above_lt hpos hk))
      · rintro (rfl | hk)
        · exact hj
        · exact ahead_trans hk hj
    have hj2 : above σ j = σ c + above σ c := by
      unfold above
      rw [hset, Finset.sum_insert (by simp [ahead_irrefl])]
    have := hmax j (by rw [hj2]; linarith)
    have := hpos c
    linarith
  · rw [Finset.not_nonempty_iff_eq_empty, Finset.filter_eq_empty_iff] at hb
    have : (Finset.univ : Finset (Fin n)) = insert c (Finset.univ.filter fun k => ahead σ k c) := by
      ext k
      simp only [Finset.mem_insert, Finset.mem_filter, Finset.mem_univ, true_and, true_iff]
      rcases ahead_total (σ := σ) k c with h | h | h
      · exact .inl h
      · exact .inr h
      · exact absurd h (hb (Finset.mem_univ k))
    rw [this, Finset.sum_insert (by simp [ahead_irrefl])] at hQ1
    unfold above at hlt
    linarith

/-- The scores taken are the critical one and those ahead of it. -/
theorem above_le_iff (hpos : ∀ i, 0 < σ i) {Q : ℝ} {c : Fin n} (hc : above σ c ≤ Q)
    (hc' : Q < above σ c + σ c) (i : Fin n) : above σ i ≤ Q ↔ i = c ∨ ahead σ i c := by
  constructor
  · intro h
    rcases ahead_total (σ := σ) i c with h' | h' | h'
    · exact .inl h'
    · exact .inr h'
    · have := above_add_le hpos h'
      linarith
  · rintro (rfl | h)
    · exact hc
    · exact (above_lt hpos h).le.trans hc

open scoped Classical in
/-- The sum before `c`: the greater scores, and the equal ones that stand further left. -/
theorem above_eq (c : Fin n) :
    above σ c = overSum σ (σ c) +
      (Finset.univ.filter fun k => σ k = σ c ∧ k < c).card * σ c := by
  unfold above overSum
  have hset : (Finset.univ.filter fun k => ahead σ k c) =
      (Finset.univ.filter fun k => σ c < σ k) ∪
        (Finset.univ.filter fun k => σ k = σ c ∧ k < c) := by
    ext k
    simp only [Finset.mem_union, Finset.mem_filter, Finset.mem_univ, true_and]
    exact Iff.rfl
  rw [hset, Finset.sum_union]
  · congr 1
    rw [Finset.sum_congr rfl (g := fun _ => σ c)]
    · rw [Finset.sum_const, nsmul_eq_mul]
    · intro k hk
      simp only [Finset.mem_filter, Finset.mem_univ, true_and] at hk
      exact hk.1
  · rw [Finset.disjoint_left]
    intro k hk hk'
    simp only [Finset.mem_filter, Finset.mem_univ, true_and] at hk hk'
    exact hk.ne hk'.1.symm

/-- The score `c` is set apart from the scores that come after it, by more than a cell of the
grid, or is a multiple of `2 ^ (-24)`. -/
def Apart (σ : Fin n → ℝ) (c : Fin n) : Prop :=
  (∀ i, ahead σ c i → σ i ≤ σ c - σ c * (2 : ℝ) ^ (-23 : ℤ) - (2 : ℝ) ^ (-149 : ℤ)) ∨
    ∃ k : ℤ, σ c * 2 ^ 24 = k

open scoped Classical in
/-- Where the sum of the scores from the grid value `w` up exceeds `Q` and the sum from the next
grid value up does not: either the critical score is that grid value, and the number of equal
scores left of it is the number of times the value fits into what is left of `Q`; or no score is
that grid value, and the scores taken are those that exceed it. -/
theorem select_cases (hpos : ∀ i, 0 < σ i) (hsum : ∑ i, σ i = 1) {Q : ℝ} (hQ0 : 0 ≤ Q)
    (hQ1 : Q < 1) (w : ℕ) (hlo : Q < tailSum σ (gridVal w))
    (hhi : tailSum σ (gridVal (w + 1)) ≤ Q)
    (hsep : ∀ c, above σ c ≤ Q → Q < above σ c + σ c → Apart σ c) :
    ∃ c, (∀ i, above σ i ≤ Q ↔ i = c ∨ ahead σ i c) ∧
      ((σ c = gridVal w ∧
          ((Finset.univ.filter fun k => σ k = gridVal w ∧ k < c).card : ℝ) * gridVal w
            ≤ Q - overSum σ (gridVal w) ∧
          Q - overSum σ (gridVal w)
            < (((Finset.univ.filter fun k => σ k = gridVal w ∧ k < c).card : ℝ) + 1) * gridVal w) ∨
        ((∀ i, σ i ≠ gridVal w) ∧ ∀ i, (i = c ∨ ahead σ i c) ↔ gridVal w < σ i)) := by
  obtain ⟨c, hc, hc'⟩ := exists_critical hpos hQ0 (by rw [hsum]; exact hQ1)
  refine ⟨c, above_le_iff hpos hc hc', ?_⟩
  have hle1 : σ c ≤ 1 := by
    rw [← hsum]
    exact Finset.single_le_sum (f := σ) (fun i _ => (hpos i).le) (Finset.mem_univ c)
  have hct : gridVal w ≤ σ c := by
    by_contra h
    rw [not_le] at h
    have : tailSum σ (gridVal w) ≤ above σ c := by
      unfold tailSum above
      apply Finset.sum_le_sum_of_subset_of_nonneg
      · intro k hk
        simp only [Finset.mem_filter, Finset.mem_univ, true_and] at hk ⊢
        exact .inl (h.trans_le hk)
      · intro k _ _
        exact (hpos k).le
    linarith
  have hct' : σ c < gridVal (w + 1) := by
    by_contra h
    rw [not_lt] at h
    have : above σ c + σ c ≤ tailSum σ (gridVal (w + 1)) := by
      unfold tailSum above
      rw [add_comm, ← Finset.sum_insert (s := Finset.univ.filter fun k => ahead σ k c)
        (by simp [ahead_irrefl])]
      apply Finset.sum_le_sum_of_subset_of_nonneg
      · intro k hk
        simp only [Finset.mem_insert, Finset.mem_filter, Finset.mem_univ, true_and] at hk ⊢
        rcases hk with rfl | hk
        · exact h
        · exact h.trans (ahead_le hk)
      · intro k _ _
        exact (hpos k).le
    linarith
  rcases hct.eq_or_lt with h | h
  · left
    refine ⟨h.symm, ?_⟩
    have := above_eq (σ := σ) c
    rw [h]
    constructor
    · linarith
    · linarith
  · right
    have hafter : ∀ i, ahead σ c i → σ i < gridVal w := by
      rcases hsep c hc hc' with ha | ⟨k, hk⟩
      · intro i hi
        have h1 := ha i hi
        have h2 := gridVal_gap w
        have h0 := gridVal_nonneg w
        have he : (2 : ℝ) ^ (-149 : ℤ) > 0 := by positivity
        generalize (2 : ℝ) ^ (-149 : ℤ) = e at *
        norm_num at h1 h2
        rcases h2 with h2 | h2 <;> linarith
      · exact absurd (no_dyadic_between w (σ c) k hk hle1 h hct') id
    have hback : ∀ i, i = c ∨ ahead σ i c → gridVal w < σ i := by
      rintro i (rfl | hi)
      · exact h
      · exact h.trans_le (ahead_le hi)
    constructor
    · intro i hi
      rcases ahead_total (σ := σ) i c with h' | h' | h'
      · exact absurd hi (hback i (.inl h')).ne'
      · exact absurd hi (hback i (.inr h')).ne'
      · exact absurd hi (hafter i h').ne
    · intro i
      refine ⟨hback i, fun hi => ?_⟩
      rcases ahead_total (σ := σ) i c with h' | h' | h'
      · exact .inl h'
      · exact .inr h'
      · exact absurd hi (hafter i h').not_gt

open scoped Classical in
/-- Among the positions at which the row takes one value, `c` is the first up to which there are
more than stand left of `c`. -/
theorem count_upto_iff (E : Fin n → Prop) {c : Fin n} (hc : E c) (j : ℕ) :
    (Finset.univ.filter fun k => E k ∧ k < c).card + 1 ≤
      (Finset.univ.filter fun k : Fin n => E k ∧ (k : ℕ) ≤ j).card ↔ (c : ℕ) ≤ j := by
  constructor
  · intro h
    by_contra hj
    rw [not_le] at hj
    have : (Finset.univ.filter fun k : Fin n => E k ∧ (k : ℕ) ≤ j).card ≤
        (Finset.univ.filter fun k => E k ∧ k < c).card := by
      apply Finset.card_le_card
      intro k hk
      simp only [Finset.mem_filter, Finset.mem_univ, true_and] at hk ⊢
      exact ⟨hk.1, Fin.lt_def.2 (by omega)⟩
    omega
  · intro hj
    rw [← Finset.card_insert_of_notMem (a := c) (s := Finset.univ.filter fun k => E k ∧ k < c)
      (by simp)]
    apply Finset.card_le_card
    intro k hk
    simp only [Finset.mem_insert, Finset.mem_filter, Finset.mem_univ, true_and] at hk ⊢
    rcases hk with rfl | hk
    · exact ⟨hc, hj⟩
    · exact ⟨hk.1, by have := Fin.lt_def.1 hk.2; omega⟩

end Cert.KernelIdeal.Hand
-- ==== Proof.Halve.lean ====
module

public import Idealize.ShloMosaic.Lib.Exec
public import Mathlib.Tactic.Linarith
public import Mathlib.Tactic.NormNum
public import Mathlib.Tactic.Positivity
public import Mathlib.Tactic.Ring
public import Mathlib.Algebra.Order.BigOperators.Group.Finset

/-!
# Halving a bracket of signed words

`Bracket P a b k lo hi` says that the words `lo` and `hi` lie between `a` and `b`, that `P` holds of
the lower one and not of the upper one, and that they are at most `2 ^ k` apart. One halving step
at a bit that tells `P` of the middle takes `k + 1` to `k`.
-/

@[expose] public section

namespace Cert.KernelIdeal.Hand

open Idealize.ShloMosaic

/-- Two words around the place at which `P` stops holding, at most `2 ^ k` apart. -/
structure Bracket (P : ℤ → Prop) (a b : ℤ) (k : ℕ) (lo hi : BitVec 32) : Prop where
  low : a ≤ lo.toInt
  high : hi.toInt ≤ b
  lt : lo.toInt < hi.toInt
  holds : P lo.toInt
  fails : ¬ P hi.toInt
  width : hi.toInt - lo.toInt ≤ 2 ^ k

/-- The middle of two words whose sum does not overflow. -/
theorem middle_toInt (x y : BitVec 32) (hx : -2 ^ 30 ≤ x.toInt) (hx' : x.toInt < 2 ^ 30)
    (hy : -2 ^ 30 ≤ y.toInt) (hy' : y.toInt < 2 ^ 30) :
    (BitVec.sshiftRight (x + y) 1).toInt = (x.toInt + y.toInt) / 2 := by
  rw [BitVec.toInt_sshiftRight, BitVec.toInt_add, Int.shiftRight_eq_div_pow]
  rw [Int.bmod_eq_of_le (by omega) (by omega)]
  norm_num

/-- One halving step. -/
theorem Bracket.step {P : ℤ → Prop} {a b : ℤ} {k : ℕ} {lo hi : BitVec 32}
    (h : Bracket P a b (k + 1) lo hi) (ha : -2 ^ 30 ≤ a) (hb : b < 2 ^ 30) (mid : BitVec 32)
    (hm : mid.toInt = (lo.toInt + hi.toInt) / 2) {C : Prop} [Decidable C]
    (hC : C ↔ P mid.toInt) :
    Bracket P a b k (if C then mid else lo) (if C then hi else mid) := by
  obtain ⟨h1, h2, h3, h4, h5, h6⟩ := h
  have hp : (2 : ℤ) ^ (k + 1) = 2 * 2 ^ k := by ring
  have hp1 : (1 : ℤ) ≤ 2 ^ k := one_le_pow₀ (by norm_num)
  by_cases hc : C
  · rw [if_pos hc, if_pos hc]
    have hP := hC.1 hc
    refine ⟨by omega, h2, by omega, hP, h5, ?_⟩
    generalize (2 : ℤ) ^ k = q at *
    omega
  · rw [if_neg hc, if_neg hc]
    have hP : ¬ P mid.toInt := fun h => hc (hC.2 h)
    have hne : mid.toInt ≠ lo.toInt := fun h => hP (h ▸ h4)
    refine ⟨h1, by omega, by omega, h4, hP, ?_⟩
    generalize (2 : ℤ) ^ k = q at *
    omega

/-- A bracket that is one apart has the upper word next to the lower one. -/
theorem Bracket.done {P : ℤ → Prop} {a b : ℤ} {lo hi : BitVec 32}
    (h : Bracket P a b 0 lo hi) : hi.toInt = lo.toInt + 1 := by
  have := h.lt
  have := h.width
  norm_num at this
  omega

/-- What every step of a counted loop carries one further holds after all its trips. -/
theorem fold_carries {α : Type} (n : ℕ) (I : ℕ → α → Prop) (g : Fin n → α → α) (init : α)
    (h0 : I n init) (hs : ∀ k m acc, I (m + 1) acc → I m (g k acc)) : I 0 (Scf.fold g init) := by
  rw [Scf.fold_eq]
  have : ∀ (L : List (Fin n)) (m : ℕ) (acc : α), I (m + L.length) acc →
      I m (L.foldl (fun acc k => g k acc) acc) := by
    intro L
    induction L with
    | nil => intro m acc h; simpa using h
    | cons k L ih =>
      intro m acc h
      rw [List.foldl_cons]
      apply ih
      apply hs
      rw [List.length_cons] at h
      rw [show m + L.length + 1 = m + (L.length + 1) by omega]
      exact h
  exact this _ 0 _ (by simpa using h0)

end Cert.KernelIdeal.Hand
-- ==== Proof.KernelReads.lean ====
module

public import proofs.«01_k».proof.Proof.Run
public import proofs.«01_k».proof.Proof.Softmax
public import proofs.«01_k».proof.Proof.Rank
public import proofs.«01_k».proof.Proof.Grid
public import proofs.«01_k».proof.Proof.Halve
public import Idealize.ShloMosaic.Lib.IndicatorCount
public import Idealize.ShloMosaic.Lib.WordArith
public import Idealize.ShloMosaic.Lib.SortNet.Extract

/-!
# The kernel's payloads read at an index, at the ideal instance
-/

@[expose] public section

set_option maxRecDepth 16384

noncomputable section

namespace Cert.KernelIdeal.Hand

open Cert.KernelIdeal Cert.KernelIdeal.Gen
open Idealize.ShloMosaic

theorem ofBits_least : Ideal.ofBits .f32 0xFF800000#32 = ⊥ := by
  simp [Ideal.ofBits, Ideal.ieee]

theorem pay10_apply (v1 : FVec Ideal S32x100000 .f32) (r : Fin 32) (j : Fin 100000) :
    k0_pay10 (F := Ideal) v1 (ix2 r j) = SoftmaxRow.soft (fun k => v1 (ix2 r k)) j := by
  unfold k0_pay10
  pointwise
  rw [ofBits_least]
  rfl

theorem pay11_apply (v1 : FVec Ideal S32x100000 .f32) (r : Fin 32) :
    k0_pay11 (F := Ideal) v1 (ix2 r 0) = ∑ x, k0_pay10 (F := Ideal) v1 (ix2 r x) := by
  unfold k0_pay11
  generalize k0_pay10 (F := Ideal) v1 = s
  pointwise

theorem pay15_apply (v0 : Elt Ideal .f32) (v1 : FVec Ideal S32x100000 .f32) (a b : IVec S32x1 32) (r : Fin 32) :
    k0_pay15 (F := Ideal) v0 v1 a b (ix2 r 0) = BitVec.ofBool (decide (v0 <
      ∑ x, if Ideal.ofBits .f32 (k0_pay14 a b (ix2 r 0)) ≤ k0_pay10 (F := Ideal) v1 (ix2 r x) then k0_pay10 (F := Ideal) v1 (ix2 r x) else 0)) := by
  unfold k0_pay15
  generalize k0_pay10 (F := Ideal) v1 = s
  generalize k0_pay14 a b = t
  pointwise

theorem pay19_apply (v1 : FVec Ideal S32x100000 .f32) (a : IVec S32x1 32) (r : Fin 32) (j : Fin 100000) :
    k0_pay19 (F := Ideal) v1 a (ix2 r j) = BitVec.ofBool (decide (Ideal.ofBits .f32 (a (ix2 r 0)) < k0_pay10 (F := Ideal) v1 (ix2 r j))) := by
  unfold k0_pay19 k0_pay18
  generalize k0_pay10 (F := Ideal) v1 = s
  pointwise

theorem pay20_apply (v1 : FVec Ideal S32x100000 .f32) (a : IVec S32x1 32) (r : Fin 32) (j : Fin 100000) :
    k0_pay20 (F := Ideal) v1 a (ix2 r j) = BitVec.ofBool (decide (k0_pay10 (F := Ideal) v1 (ix2 r j) = Ideal.ofBits .f32 (a (ix2 r 0)))) := by
  unfold k0_pay20 k0_pay18
  generalize k0_pay10 (F := Ideal) v1 = s
  pointwise

theorem pay21_apply (v1 : FVec Ideal S32x100000 .f32) (a : IVec S32x1 32) (r : Fin 32) :
    k0_pay21 (F := Ideal) v1 a (ix2 r 0) = (Finset.univ : Finset (Fin 100000)).fold IntOp.addi 0#32 (fun x => (k0_pay20 (F := Ideal) v1 a (ix2 r x)).setWidth 32) := by
  unfold k0_pay21
  generalize k0_pay20 (F := Ideal) v1 a = s
  pointwise

theorem pay22_apply (v0 : Elt Ideal .f32) (v1 : FVec Ideal S32x100000 .f32) (a : IVec S32x1 32) (r : Fin 32) :
    k0_pay22 (F := Ideal) v0 v1 a (ix2 r 0) = IntOp.addi (FloatOps.fptosi (F := Ideal) (φ := .f32) 32 (Ideal.liftRound Int.floor (Ideal.div
      (v0 - ∑ x, Scalar.select (k0_pay19 (F := Ideal) v1 a (ix2 r x)) (k0_pay10 (F := Ideal) v1 (ix2 r x)) 0)
      (if 0 < Ideal.ofBits .f32 (a (ix2 r 0)) then Ideal.ofBits .f32 (a (ix2 r 0)) else 1)))) 1#32 := by
  unfold k0_pay22 k0_pay18
  generalize k0_pay10 (F := Ideal) v1 = s
  generalize k0_pay19 (F := Ideal) v1 a = g
  pointwise

theorem pay5_apply (v21 : IVec S32x100000 1) (v28 v39 v40 a b : IVec S32x1 32) (r : Fin 32) :
    k0_pay5 v21 v28 v39 v40 a b (ix2 r 0) = IntOp.cmpi .sge ((Finset.univ : Finset (Fin 100000)).fold IntOp.addi 0#32
        (fun x => (IntOp.andi (v21 (ix2 r x)) (IntOp.cmpi .sle (BitVec.ofNat 32 x.val) (k0_pay4 a b (ix2 r 0)))).setWidth 32))
      (IntOp.minsi (IntOp.maxsi (v28 (ix2 r 0)) (v40 (ix2 r 0))) (IntOp.maxsi 1#32 (v39 (ix2 r 0)))) := by
  unfold k0_pay5
  generalize k0_pay4 a b = t
  pointwise

theorem pay8_apply (v21 : IVec S32x100000 1) (r : Fin 32) :
    k0_pay8 v21 (ix2 r 0) = (Finset.univ : Finset (Fin 100000)).fold IntOp.minsi 2147483647#32
        (fun x => Scalar.select (v21 (ix2 r x)) (BitVec.ofNat 32 x.val) 100000#32) := by
  unfold k0_pay8
  pointwise

theorem pay1_apply (v28 : IVec S32x1 32) :
    k0_pay1 (F := Ideal) v28 = (Finset.univ : Finset (Fin 32 × Fin 1)).fold max ⊥
      (fun x => Scalar.select (IntOp.cmpi .sgt (v28 (ix2 x.1 0)) 1#32) (1 : EReal) 0) := by
  unfold k0_pay1
  pointwise
  rw [ofBits_least]

theorem pay9_apply (v0 : Elt Ideal .f32) (v12 : FVec Ideal S32x1 .f32) (v19 v21 : IVec S32x100000 1) (v58 : IVec S32x1 32) (r : Fin 32) (j : Fin 100000) :
    k0_pay9 (F := Ideal) v0 v12 v19 v21 v58 (ix2 r j) = (IntOp.ori (IntOp.ori (v19 (ix2 r j)) (IntOp.andi (v21 (ix2 r j)) (IntOp.cmpi .sle (BitVec.ofNat 32 j.val) (v58 (ix2 r 0)))))
      (IntOp.ori (BitVec.ofBool (decide (v12 (ix2 r 0) ≤ v0))) (BitVec.ofBool (decide (1 ≤ v0))))).setWidth 8 := by
  unfold k0_pay9
  pointwise

end Cert.KernelIdeal.Hand
-- ==== Proof.KernelMask.lean ====
module

public import proofs.«01_k».proof.Proof.KernelReads

/-!
# The kernel's mask on a row of real scores

On a row whose scores are positive reals of sum one, the bracket of words closes on the last grid
value whose tail exceeds the level, the bracket of lanes closes on the lane of the critical score,
and the mask marks the scores whose sum ahead is at most the level.
-/

@[expose] public section

set_option maxRecDepth 16384

noncomputable section

namespace Cert.KernelIdeal.Hand

open Cert.KernelIdeal Cert.KernelIdeal.Gen
open Idealize.ShloMosaic

/-! ### Words -/

theorem bit_one (p : Prop) [Decidable p] : BitVec.ofBool (decide p) = 1#1 ↔ p := by
  by_cases h : p <;> simp [h]

theorem sle_iff (x y : BitVec 32) : IntOp.cmpi .sle x y = 1#1 ↔ x.toInt ≤ y.toInt := by
  show BitVec.ofBool (BitVec.sle _ _) = 1#1 ↔ _
  rw [BitVec.sle_eq_decide]
  exact bit_one _

theorem sge_iff (x y : BitVec 32) : IntOp.cmpi .sge x y = 1#1 ↔ y.toInt ≤ x.toInt := by
  show BitVec.ofBool (BitVec.sle _ _) = 1#1 ↔ _
  rw [BitVec.sle_eq_decide]
  exact bit_one _

theorem sgt_iff (x y : BitVec 32) : IntOp.cmpi .sgt x y = 1#1 ↔ y.toInt < x.toInt := by
  show BitVec.ofBool (BitVec.slt _ _) = 1#1 ↔ _
  rw [BitVec.slt_eq_decide]
  exact bit_one _

theorem and_one (a b : BitVec 1) : IntOp.andi a b = 1#1 ↔ a = 1#1 ∧ b = 1#1 := IntOp.andi_eq_one

theorem or_one (a b : BitVec 1) : IntOp.ori a b = 1#1 ↔ a = 1#1 ∨ b = 1#1 := by
  revert a b; decide

theorem widen_ne (a : BitVec 1) : a.setWidth 8 ≠ 0#8 ↔ a = 1#1 := by
  revert a; decide

/-- A selection by a bit that says `C`. -/
theorem select_iff {α : Type} {b : BitVec 1} {C : Prop} [Decidable C] (h : b = 1#1 ↔ C) (x y : α) :
    Scalar.select b x y = if C then x else y := by
  unfold Scalar.select
  by_cases hc : C
  · rw [if_pos hc, if_pos (show b = 1 from h.2 hc)]
  · rw [if_neg hc, if_neg (fun hb : b = 1 => hc (h.1 hb))]

/-- A fold of the signed minimum that some member attains. -/
theorem fold_minsi_toInt {ι : Type} (S : Finset ι) (f : ι → BitVec 32) (z : BitVec 32) (v : ℤ)
    (hz : v ≤ z.toInt) (hge : ∀ i ∈ S, v ≤ (f i).toInt) (hat : ∃ i ∈ S, (f i).toInt = v) :
    (S.fold IntOp.minsi z f).toInt = v := by
  classical
  have h1 : ∀ T : Finset ι, T ⊆ S → v ≤ (T.fold IntOp.minsi z f).toInt ∧
      ∀ i ∈ T, (T.fold IntOp.minsi z f).toInt ≤ (f i).toInt := by
    intro T
    induction T using Finset.induction_on with
    | empty => intro _; exact ⟨hz, fun i hi => absurd hi (by simp)⟩
    | insert a T ha ih =>
      intro hT
      have hs : T ⊆ S := fun i hi => hT (Finset.mem_insert_of_mem hi)
      obtain ⟨h1, h2⟩ := ih hs
      rw [Finset.fold_insert ha, SortNet.toInt_minsi]
      refine ⟨le_min (hge a (hT (Finset.mem_insert_self _ _))) h1, fun i hi => ?_⟩
      rcases Finset.mem_insert.1 hi with rfl | hi
      · exact min_le_left _ _
      · exact (min_le_right _ _).trans (h2 i hi)
  obtain ⟨i, hi, e⟩ := hat
  obtain ⟨h2, h3⟩ := h1 S (Finset.Subset.refl _)
  exact le_antisymm (e ▸ h3 i hi) h2

theorem trips_words : k0_t1_loop.trips = 31 := by decide
theorem trips_lanes : k0_t2_loop.trips = 17 := by decide

theorem pay14_toInt (a b : IVec S32x1 32) (r : Fin 32)
    (ha : -2 ^ 30 ≤ (a (ix2 r 0)).toInt) (ha' : (a (ix2 r 0)).toInt < 2 ^ 30)
    (hb : -2 ^ 30 ≤ (b (ix2 r 0)).toInt) (hb' : (b (ix2 r 0)).toInt < 2 ^ 30) :
    (k0_pay14 a b (ix2 r 0)).toInt = ((a (ix2 r 0)).toInt + (b (ix2 r 0)).toInt) / 2 :=
  middle_toInt _ _ ha ha' hb hb'

theorem pay4_toInt (a b : IVec S32x1 32) (r : Fin 32)
    (ha : -2 ^ 30 ≤ (a (ix2 r 0)).toInt) (ha' : (a (ix2 r 0)).toInt < 2 ^ 30)
    (hb : -2 ^ 30 ≤ (b (ix2 r 0)).toInt) (hb' : (b (ix2 r 0)).toInt < 2 ^ 30) :
    (k0_pay4 a b (ix2 r 0)).toInt = ((a (ix2 r 0)).toInt + (b (ix2 r 0)).toInt) / 2 :=
  middle_toInt _ _ ha ha' hb hb'

/-! ### One row -/

section
variable {v1 : FVec Ideal S32x100000 .f32} {r : Fin 32} {σ : Fin 100000 → ℝ} {Q : ℝ}

open scoped Classical in
theorem tail_coe (hσ : ∀ j, k0_pay10 (F := Ideal) v1 (ix2 r j) = (σ j : EReal)) (t : ℝ) :
    (∑ x, if (t : EReal) ≤ k0_pay10 (F := Ideal) v1 (ix2 r x) then k0_pay10 (F := Ideal) v1 (ix2 r x) else 0)
      = ((tailSum σ t : ℝ) : EReal) := by
  unfold tailSum
  rw [SoftmaxRow.coe_sum, Finset.sum_filter]
  refine Finset.sum_congr rfl fun x _ => ?_
  rw [hσ]
  by_cases h : t ≤ σ x
  · rw [if_pos h, if_pos (EReal.coe_le_coe_iff.2 h)]
  · rw [if_neg h, if_neg (fun h' => h (EReal.coe_le_coe_iff.1 h'))]

/-- The bit of a halving of words says that the tail of the middle's grid value exceeds the level. -/
theorem pay15_iff (hσ : ∀ j, k0_pay10 (F := Ideal) v1 (ix2 r j) = (σ j : EReal)) (a b : IVec S32x1 32)
    (hm : (k0_pay14 a b (ix2 r 0)).toNat < 255 * 2 ^ 23) :
    k0_pay15 (F := Ideal) (Q : EReal) v1 a b (ix2 r 0) = 1#1 ↔
      Q < tailSum σ (gridVal (k0_pay14 a b (ix2 r 0)).toNat) := by
  rw [pay15_apply, bit_one]
  have e : Ideal.ofBits .f32 (k0_pay14 a b (ix2 r 0)) = ((gridVal (k0_pay14 a b (ix2 r 0)).toNat : ℝ) : EReal) :=
    ieee_gridVal _ hm
  rw [e]
  have h := tail_coe hσ (gridVal (k0_pay14 a b (ix2 r 0)).toNat)
  constructor
  · intro hlt
    refine EReal.coe_lt_coe_iff.1 ?_
    rw [← h]
    convert hlt
  · intro hlt
    have := EReal.coe_lt_coe_iff.2 hlt
    rw [← h] at this
    convert this

/-- The word on which the bracket closes: the last grid value whose tail exceeds the level. -/
theorem bracket_word (hσ : ∀ j, k0_pay10 (F := Ideal) v1 (ix2 r j) = (σ j : EReal)) (hpos : ∀ j, 0 < σ j)
    (hsum : ∑ j, σ j = 1) (h0 : 0 ≤ Q) (h1 : Q < 1) :
    ∃ w : ℕ, ((bracket (F := Ideal) (Q : EReal) v1).1 (ix2 r 0)).toNat = w ∧ w < 0x3F800001 ∧
      Q < tailSum σ (gridVal w) ∧ tailSum σ (gridVal (w + 1)) ≤ Q := by
  classical
  have hle1 : ∀ j, σ j ≤ 1 := fun j => by
    rw [← hsum]
    exact Finset.single_le_sum (f := σ) (fun i _ => (hpos i).le) (Finset.mem_univ j)
  let P : ℤ → Prop := fun x => Q < tailSum σ (gridVal x.toNat)
  let I : ℕ → IVec S32x1 32 × IVec S32x1 32 → Prop := fun k w =>
    Bracket P 0 0x3F800001 k (w.1 (ix2 r 0)) (w.2 (ix2 r 0))
  have hfin : I 0 (bracket (F := Ideal) (Q : EReal) v1) := by
    unfold bracket
    refine fold_carries _ I _ _ ?_ ?_
    · rw [trips_words]
      have e1 : ((0x3F800001#32 : BitVec 32)).toInt = 0x3F800001 := by decide
      have e0 : ((0#32 : BitVec 32)).toInt = 0 := by decide
      show Bracket P 0 0x3F800001 31 0#32 0x3F800001#32
      refine ⟨by rw [e0], by rw [e1], by rw [e0, e1]; norm_num, ?_, ?_, by rw [e0, e1]; norm_num⟩
      · show Q < tailSum σ (gridVal ((0#32 : BitVec 32).toInt).toNat)
        rw [e0]
        show Q < tailSum σ (gridVal 0)
        rw [gridVal_zero]
        unfold tailSum
        rw [Finset.filter_true_of_mem fun j _ => (hpos j).le, hsum]
        exact h1
      · show ¬ Q < tailSum σ (gridVal ((0x3F800001#32 : BitVec 32).toInt).toNat)
        rw [e1]
        show ¬ Q < tailSum σ (gridVal 0x3F800001)
        have hg : 1 < gridVal 0x3F800001 := by
          have := gridVal_lt_succ 0x3F800000
          rw [gridVal_one] at this
          exact this
        unfold tailSum
        rw [Finset.filter_false_of_mem, Finset.sum_empty]
        · exact not_lt.2 h0
        · intro j _ hj
          have := hle1 j
          linarith
    · intro k m acc hI
      have hl := hI.low
      have hh := hI.high
      have hlt := hI.lt
      have hmid := pay14_toInt acc.1 acc.2 r (by omega) (by omega) (by omega) (by omega)
      have hnat : ((k0_pay14 acc.1 acc.2 (ix2 r 0)).toInt).toNat = (k0_pay14 acc.1 acc.2 (ix2 r 0)).toNat := by
        have := (k0_pay14 acc.1 acc.2 (ix2 r 0)).toInt_eq_toNat_cond
        have := (k0_pay14 acc.1 acc.2 (ix2 r 0)).isLt
        split at * <;> omega
      have hbit := pay15_iff (Q := Q) hσ acc.1 acc.2 (by rw [← hnat]; omega)
      rw [← hnat] at hbit
      have hbit' : k0_pay15 (F := Ideal) (Q : EReal) v1 acc.1 acc.2 (ix2 r 0) = 1#1 ↔
          P (k0_pay14 acc.1 acc.2 (ix2 r 0)).toInt := hbit
      have e1 : k0_pay16 (F := Ideal) (Q : EReal) v1 acc.1 acc.2 (ix2 r 0)
          = if P (k0_pay14 acc.1 acc.2 (ix2 r 0)).toInt then k0_pay14 acc.1 acc.2 (ix2 r 0) else acc.1 (ix2 r 0) := by
        rw [← select_iff hbit' (k0_pay14 acc.1 acc.2 (ix2 r 0)) (acc.1 (ix2 r 0))]
        rfl
      have e2 : k0_pay17 (F := Ideal) (Q : EReal) v1 acc.1 acc.2 (ix2 r 0)
          = if P (k0_pay14 acc.1 acc.2 (ix2 r 0)).toInt then acc.2 (ix2 r 0) else k0_pay14 acc.1 acc.2 (ix2 r 0) := by
        rw [← select_iff hbit' (acc.2 (ix2 r 0)) (k0_pay14 acc.1 acc.2 (ix2 r 0))]
        rfl
      show Bracket P 0 0x3F800001 m _ _
      dsimp only
      rw [e1, e2]
      exact Bracket.step hI (by norm_num) (by norm_num) _ hmid Iff.rfl
  have hd := hfin.done
  have hl := hfin.low
  have hh := hfin.high
  have hP := hfin.holds
  have hN := hfin.fails
  generalize (bracket (F := Ideal) (Q : EReal) v1).1 (ix2 r 0) = lo at *
  rw [hd] at hN
  have hnat : lo.toInt.toNat = lo.toNat := by
    have := lo.toInt_eq_toNat_cond
    have := lo.isLt
    split at * <;> omega
  refine ⟨lo.toNat, rfl, by omega, ?_, ?_⟩
  · have : Q < tailSum σ (gridVal lo.toInt.toNat) := hP
    rwa [hnat] at this
  · have : ¬ Q < tailSum σ (gridVal (lo.toInt + 1).toNat) := hN
    rw [show (lo.toInt + 1).toNat = lo.toNat + 1 by omega] at this
    exact not_lt.1 this

end

end Cert.KernelIdeal.Hand
-- ==== Proof.KernelRow.lean ====
module

public import proofs.«01_k».proof.Proof.KernelMask
public import Idealize.ShloMosaic.Lib.StableHlo.Predicate

/-!
# The kernel's selected lanes of a row

The lane bracket, the first lane of a critical score that stands alone, and the mask of the row.
-/

@[expose] public section

set_option maxRecDepth 16384

noncomputable section

namespace Cert.KernelIdeal.Hand

open Cert.KernelIdeal Cert.KernelIdeal.Gen
open Idealize.ShloMosaic

/-- The number of set bits of a row, as a word. -/
theorem count_toInt (b : Fin 100000 → BitVec 1) (E : Fin 100000 → Prop) [DecidablePred E] (hE : ∀ j, b j = 1#1 ↔ E j) :
    ((Finset.univ : Finset (Fin 100000)).fold IntOp.addi 0#32 (fun x => (b x).setWidth 32)).toInt
      = ((Finset.univ.filter E).card : ℤ) := by
  rw [IndicatorCount.fold_addi_setWidth_eq_card]
  have hc : (Finset.univ.filter fun k => b k = 1#1) = Finset.univ.filter E :=
    Finset.filter_congr fun k _ => hE k
  rw [hc]
  apply StableHlo.Predicate.toInt_ofNat_small
  have := Finset.card_le_univ (Finset.univ.filter E)
  rw [Fintype.card_fin] at this
  omega

theorem lane_toInt (j : Fin 100000) : (BitVec.ofNat 32 j.val).toInt = j.val :=
  StableHlo.Predicate.toInt_ofNat_small _ (by have := j.isLt; omega)

section
variable {r : Fin 32} {v21 : IVec S32x100000 1} {E : Fin 100000 → Prop}

open scoped Classical in
/-- The bit of a halving of lanes says that the middle reaches the lane `c`. -/
theorem pay5_iff (hE : ∀ j, v21 (ix2 r j) = 1#1 ↔ E j) {c : Fin 100000} (hc : E c) (v28 v39 v40 a b : IVec S32x1 32)
    (ht : (IntOp.minsi (IntOp.maxsi (v28 (ix2 r 0)) (v40 (ix2 r 0))) (IntOp.maxsi 1#32 (v39 (ix2 r 0)))).toInt
      = ((Finset.univ.filter fun k => E k ∧ k < c).card : ℤ) + 1) :
    k0_pay5 v21 v28 v39 v40 a b (ix2 r 0) = 1#1 ↔ (c.val : ℤ) ≤ (k0_pay4 a b (ix2 r 0)).toInt := by
  rw [pay5_apply, sge_iff, ht]
  generalize (k0_pay4 a b (ix2 r 0)) = mid
  rw [count_toInt _ (fun k => E k ∧ (k.val : ℤ) ≤ mid.toInt) (fun k => by rw [and_one, hE, sle_iff, lane_toInt])]
  by_cases hm : 0 ≤ mid.toInt
  · have h := count_upto_iff E hc mid.toInt.toNat
    have e : (Finset.univ.filter fun k : Fin 100000 => E k ∧ (k.val : ℤ) ≤ mid.toInt)
        = Finset.univ.filter fun k : Fin 100000 => E k ∧ (k : ℕ) ≤ mid.toInt.toNat := by
      refine Finset.filter_congr fun k _ => and_congr_right fun _ => ?_
      omega
    rw [e]
    constructor
    · intro h'
      have := h.1 (by exact_mod_cast h')
      omega
    · intro h'
      have := h.2 (by omega)
      exact_mod_cast this
  · have e : (Finset.univ.filter fun k : Fin 100000 => E k ∧ (k.val : ℤ) ≤ mid.toInt) = ∅ := by
      rw [Finset.filter_eq_empty_iff]
      rintro k _ ⟨-, hk⟩
      omega
    rw [e]
    constructor
    · intro h'
      rw [Finset.card_empty] at h'
      push_cast at h'
      omega
    · intro h'
      omega

open scoped Classical in
/-- The bracket of lanes closes on the lane `c`. -/
theorem lane_bracket (hE : ∀ j, v21 (ix2 r j) = 1#1 ↔ E j) {c : Fin 100000} (hc : E c) (v28 v39 v40 : IVec S32x1 32)
    (ht : (IntOp.minsi (IntOp.maxsi (v28 (ix2 r 0)) (v40 (ix2 r 0))) (IntOp.maxsi 1#32 (v39 (ix2 r 0)))).toInt
      = ((Finset.univ.filter fun k => E k ∧ k < c).card : ℤ) + 1) :
    ((laneBracket v21 v28 v39 v40).2 (ix2 r 0)).toInt = c.val := by
  let P : ℤ → Prop := fun x => x < c.val
  let I : ℕ → IVec S32x1 32 × IVec S32x1 32 → Prop := fun k w =>
    Bracket P (-1) 99999 k (w.1 (ix2 r 0)) (w.2 (ix2 r 0))
  have hcl := c.isLt
  have hfin : I 0 (laneBracket v21 v28 v39 v40) := by
    unfold laneBracket
    refine fold_carries _ I _ _ ?_ ?_
    · rw [trips_lanes]
      have e1 : ((99999#32 : BitVec 32)).toInt = 99999 := by decide
      have e0 : ((4294967295#32 : BitVec 32)).toInt = -1 := by decide
      show Bracket P (-1) 99999 17 4294967295#32 99999#32
      refine ⟨by rw [e0], by rw [e1], by rw [e0, e1]; norm_num, ?_, ?_, by rw [e0, e1]; norm_num⟩
      · show (4294967295#32 : BitVec 32).toInt < c.val
        rw [e0]
        omega
      · show ¬ (99999#32 : BitVec 32).toInt < c.val
        rw [e1]
        omega
    · intro k m acc hI
      have hl := hI.low
      have hh := hI.high
      have hlt := hI.lt
      have hmid := pay4_toInt acc.1 acc.2 r (by omega) (by omega) (by omega) (by omega)
      have hbit := pay5_iff hE hc v28 v39 v40 acc.1 acc.2 ht
      have e1 : k0_pay6 v21 v28 v39 v40 acc.1 acc.2 (ix2 r 0)
          = if P (k0_pay4 acc.1 acc.2 (ix2 r 0)).toInt then k0_pay4 acc.1 acc.2 (ix2 r 0) else acc.1 (ix2 r 0) := by
        have : k0_pay6 v21 v28 v39 v40 acc.1 acc.2 (ix2 r 0) = Scalar.select (k0_pay5 v21 v28 v39 v40 acc.1 acc.2 (ix2 r 0))
          (acc.1 (ix2 r 0)) (k0_pay4 acc.1 acc.2 (ix2 r 0)) := rfl
        rw [this, select_iff hbit]
        by_cases h : (c.val : ℤ) ≤ (k0_pay4 acc.1 acc.2 (ix2 r 0)).toInt
        · rw [if_pos h, if_neg (show ¬ P _ from not_lt.2 h)]
        · rw [if_neg h, if_pos (show P _ from not_le.1 h)]
      have e2 : k0_pay7 v21 v28 v39 v40 acc.1 acc.2 (ix2 r 0)
          = if P (k0_pay4 acc.1 acc.2 (ix2 r 0)).toInt then acc.2 (ix2 r 0) else k0_pay4 acc.1 acc.2 (ix2 r 0) := by
        have : k0_pay7 v21 v28 v39 v40 acc.1 acc.2 (ix2 r 0) = Scalar.select (k0_pay5 v21 v28 v39 v40 acc.1 acc.2 (ix2 r 0))
          (k0_pay4 acc.1 acc.2 (ix2 r 0)) (acc.2 (ix2 r 0)) := rfl
        rw [this, select_iff hbit]
        by_cases h : (c.val : ℤ) ≤ (k0_pay4 acc.1 acc.2 (ix2 r 0)).toInt
        · rw [if_pos h, if_neg (show ¬ P _ from not_lt.2 h)]
        · rw [if_neg h, if_pos (show P _ from not_le.1 h)]
      show Bracket P (-1) 99999 m _ _
      dsimp only
      rw [e1, e2]
      exact Bracket.step hI (by norm_num) (by norm_num) _ hmid Iff.rfl
  have hd := hfin.done
  have hP : ((laneBracket v21 v28 v39 v40).1 (ix2 r 0)).toInt < c.val := hfin.holds
  have hN : ¬ ((laneBracket v21 v28 v39 v40).2 (ix2 r 0)).toInt < c.val := hfin.fails
  omega

/-- The first lane of a score that stands alone. -/
theorem first_lane (hE : ∀ j, v21 (ix2 r j) = 1#1 ↔ E j) {c : Fin 100000} (hc : E c) (hone : ∀ j, E j → j = c) :
    (k0_pay8 v21 (ix2 r 0)).toInt = c.val := by
  rw [pay8_apply]
  have hcl := c.isLt
  refine fold_minsi_toInt _ _ _ _ ?_ (fun i _ => ?_) ⟨c, Finset.mem_univ _, ?_⟩
  · rw [show ((2147483647#32 : BitVec 32)).toInt = 2147483647 from by decide]
    omega
  · unfold Scalar.select
    split
    · next h =>
      rw [hone i ((hE i).1 h), lane_toInt]
    · rw [show ((100000#32 : BitVec 32)).toInt = 100000 from by decide]
      omega
  · rw [WordCmp.select_of_eq_one ((hE c).2 hc), lane_toInt]

end

/-- Off the branch no row holds more than one lane of its critical score. -/
theorem alone_of_not_tied (v28 : IVec S32x1 32) (h : ¬ tied (F := Ideal) v28 = 1#1) (r : Fin 32) :
    (v28 (ix2 r 0)).toInt ≤ 1 := by
  by_contra hr
  rw [not_le] at hr
  apply h
  have hp : (0 : EReal) < k0_pay1 (F := Ideal) v28 := by
    rw [pay1_apply, Finset.lt_fold_max]
    refine .inr ⟨(r, 0), Finset.mem_univ _, ?_⟩
    rw [WordCmp.select_of_eq_one ((sgt_iff _ _).2 ?_)]
    · exact zero_lt_one
    · rw [show ((1#32 : BitVec 32)).toInt = 1 from by decide]
      exact hr
  have e : Scalar.cmpf (F := Ideal) (φ := .f32) .ogt (k0_pay1 (F := Ideal) v28) (Scalar.ofBits .f32 0x00000000#32) = 1#1 := by
    show BitVec.ofBool (decide (Ideal.ofBits .f32 0x00000000#32 < k0_pay1 (F := Ideal) v28)) = 1#1
    rw [bit_one, Ideal.ofBits_zero_f32]
    exact hp
  unfold tied
  rw [e]
  decide

section
variable {v1 : FVec Ideal S32x100000 .f32} {r : Fin 32} {σ : Fin 100000 → ℝ} {Q : ℝ} {a : IVec S32x1 32} {w : ℕ}

theorem word_coe (hw : (a (ix2 r 0)).toNat = w) (hw' : w < 0x3F800001) :
    Ideal.ofBits .f32 (a (ix2 r 0)) = ((gridVal w : ℝ) : EReal) := by
  rw [← hw]
  exact ieee_gridVal _ (by omega)

theorem pay20_iff (hσ : ∀ j, k0_pay10 (F := Ideal) v1 (ix2 r j) = (σ j : EReal))
    (ha : Ideal.ofBits .f32 (a (ix2 r 0)) = ((gridVal w : ℝ) : EReal)) (j : Fin 100000) :
    k0_pay20 (F := Ideal) v1 a (ix2 r j) = 1#1 ↔ σ j = gridVal w := by
  rw [pay20_apply, bit_one, hσ, ha, EReal.coe_eq_coe_iff]

theorem pay19_iff (hσ : ∀ j, k0_pay10 (F := Ideal) v1 (ix2 r j) = (σ j : EReal))
    (ha : Ideal.ofBits .f32 (a (ix2 r 0)) = ((gridVal w : ℝ) : EReal)) (j : Fin 100000) :
    k0_pay19 (F := Ideal) v1 a (ix2 r j) = 1#1 ↔ gridVal w < σ j := by
  rw [pay19_apply, bit_one, hσ, ha, EReal.coe_lt_coe_iff]

theorem over_coe (hσ : ∀ j, k0_pay10 (F := Ideal) v1 (ix2 r j) = (σ j : EReal))
    (ha : Ideal.ofBits .f32 (a (ix2 r 0)) = ((gridVal w : ℝ) : EReal)) :
    (∑ x, Scalar.select (k0_pay19 (F := Ideal) v1 a (ix2 r x)) (k0_pay10 (F := Ideal) v1 (ix2 r x)) (0 : EReal))
      = ((overSum σ (gridVal w) : ℝ) : EReal) := by
  classical
  unfold overSum
  rw [SoftmaxRow.coe_sum, Finset.sum_filter]
  refine Finset.sum_congr rfl fun x _ => ?_
  rw [select_iff (pay19_iff hσ ha x), hσ]

/-- The place of the last selected lane among those of the critical score. -/
theorem pay22_toInt (hσ : ∀ j, k0_pay10 (F := Ideal) v1 (ix2 r j) = (σ j : EReal))
    (ha : Ideal.ofBits .f32 (a (ix2 r 0)) = ((gridVal w : ℝ) : EReal)) (hg : 0 < gridVal w) (k : ℕ) (hk : k < 100000)
    (h1 : (k : ℝ) * gridVal w ≤ Q - overSum σ (gridVal w))
    (h2 : Q - overSum σ (gridVal w) < ((k : ℝ) + 1) * gridVal w) :
    (k0_pay22 (F := Ideal) (Q : EReal) v1 a (ix2 r 0)).toInt = (k : ℤ) + 1 := by
  rw [pay22_apply, over_coe hσ ha, ha, if_pos (by exact_mod_cast hg), ← EReal.coe_sub, Ideal.div_coe hg.ne',
    ← EReal.coe_mul]
  have hf : ⌊(Q - overSum σ (gridVal w)) * (1 / gridVal w)⌋ = (k : ℤ) := by
    rw [Int.floor_eq_iff, mul_one_div, le_div_iff₀ hg, div_lt_iff₀ hg]
    constructor
    · exact_mod_cast h1
    · exact_mod_cast h2
  have hl : Ideal.liftRound Int.floor (((Q - overSum σ (gridVal w)) * (1 / gridVal w) : ℝ) : EReal) = (((k : ℤ) : ℝ) : EReal) := by
    rw [Ideal.liftRound_coe, hf]
  rw [hl]
  have hw : FloatOps.fptosi (F := Ideal) (φ := .f32) 32 ((((k : ℤ) : ℝ) : EReal)) = BitVec.ofNat 32 k := by
    show BitVec.ofInt 32 (max (-(2 ^ (32 - 1) : ℕ)) (min ((2 ^ (32 - 1) : ℕ) - 1) (if 0 ≤ ((k : ℤ) : ℝ) then ⌊((k : ℤ) : ℝ)⌋ else ⌈((k : ℤ) : ℝ)⌉))) = _
    rw [if_pos (by exact_mod_cast Nat.zero_le k), Int.floor_intCast]
    rw [show max (-((2 ^ (32 - 1) : ℕ) : ℤ)) (min (((2 ^ (32 - 1) : ℕ) : ℤ) - 1) (k : ℤ)) = (k : ℤ) by
      norm_num
      omega]
    exact BitVec.ofInt_natCast 32 k
  rw [hw]
  have e : IntOp.addi (BitVec.ofNat 32 k) 1#32 = BitVec.ofNat 32 (k + 1) := by
    show BitVec.ofNat 32 k + 1#32 = _
    rw [← BitVec.ofNat_add]
  rw [e, StableHlo.Predicate.toInt_ofNat_small _ (by omega)]
  push_cast
  rfl

end

/-! ### The mask of a row -/

/-- The kernel marks a score when the level is at least one, or when the sum of the scores ahead of it is
at most the level. -/
theorem mask_iff (v0 : EReal) (v1 : FVec Ideal S32x100000 .f32) (r : Fin 32) (σ : Fin 100000 → ℝ)
    (hσ : ∀ j, SoftmaxRow.soft (fun k => v1 (ix2 r k)) j = (σ j : EReal)) (hpos : ∀ j, 0 < σ j)
    (hsum : ∑ j, σ j = 1) (h0 : 0 ≤ v0)
    (hsep : ∀ Q : ℝ, v0 = (Q : EReal) → ∀ c, above σ c ≤ Q → Q < above σ c + σ c → Apart σ c) (j : Fin 100000) :
    maskOut (F := Ideal) v0 v1 (ix2 r j) ≠ 0#8 ↔ 1 ≤ v0 ∨ (above σ j : EReal) ≤ v0 := by
  classical
  have hσ' : ∀ j, k0_pay10 (F := Ideal) v1 (ix2 r j) = (σ j : EReal) := fun j => by
    rw [pay10_apply]; exact hσ j
  have htotal : k0_pay11 (F := Ideal) v1 (ix2 r 0) = 1 := by
    rw [pay11_apply]
    simp only [hσ']
    rw [← SoftmaxRow.coe_sum, hsum]
    rfl
  unfold maskOut
  rw [pay9_apply, widen_ne, htotal]
  simp only [or_one, and_one, bit_one, or_self]
  by_cases h1 : 1 ≤ v0
  · simp [h1]
  · simp only [h1, or_false, false_or]
    have hQ : ∃ Q : ℝ, v0 = (Q : EReal) := by
      refine ⟨v0.toReal, (EReal.coe_toReal ?_ ?_).symm⟩
      · rintro h; rw [h] at h1; exact h1 le_top
      · rintro h; rw [h] at h0; exact absurd h0 (by simp)
    obtain ⟨Q, rfl⟩ := hQ
    have hQ0 : 0 ≤ Q := by exact_mod_cast h0
    have hQ1 : Q < 1 := by
      rw [not_le] at h1
      exact_mod_cast h1
    obtain ⟨w, hw, hw', hlo, hhi⟩ := bracket_word hσ' hpos hsum hQ0 hQ1
    generalize (bracket (F := Ideal) (Q : EReal) v1).1 = a at *
    have ha := word_coe hw hw'
    obtain ⟨c, hsel, hcase⟩ := select_cases hpos hsum hQ0 hQ1 w hlo hhi (hsep Q rfl)
    rw [pay19_iff hσ' ha, pay20_iff hσ' ha, EReal.coe_le_coe_iff, hsel]
    rcases hcase with ⟨hc, hk1, hk2⟩ | ⟨hnone, hgt⟩
    · have hg : 0 < gridVal w := hc ▸ hpos c
      have hE : ∀ j, k0_pay20 (F := Ideal) v1 a (ix2 r j) = 1#1 ↔ σ j = gridVal w := pay20_iff hσ' ha
      have hsub : (Finset.univ.filter fun k => σ k = gridVal w ∧ k < c).card < (Finset.univ.filter fun k => σ k = gridVal w).card := by
        apply Finset.card_lt_card
        rw [Finset.ssubset_iff_of_subset]
        · exact ⟨c, by simp [hc], by simp⟩
        · intro k hk
          simp only [Finset.mem_filter, Finset.mem_univ, true_and] at hk ⊢
          exact hk.1
      have hle : (Finset.univ.filter fun k => σ k = gridVal w).card ≤ 100000 := by
        have := Finset.card_le_univ (Finset.univ.filter fun k => σ k = gridVal w)
        rwa [Fintype.card_fin] at this
      have h21 : (k0_pay21 (F := Ideal) v1 a (ix2 r 0)).toInt = ((Finset.univ.filter fun k => σ k = gridVal w).card : ℤ) := by
        rw [pay21_apply]
        exact count_toInt _ _ hE
      have h22 := pay22_toInt hσ' ha hg _ (by omega) hk1 hk2
      have hlast : (lastLane (F := Ideal) (k0_pay20 (F := Ideal) v1 a) (k0_pay21 (F := Ideal) v1 a)
          (k0_pay22 (F := Ideal) (Q : EReal) v1 a) k0_pay23 (ix2 r 0)).toInt = c.val := by
        by_cases ht : tied (F := Ideal) (k0_pay21 (F := Ideal) v1 a) = 1#1
        · rw [lastLane_pos _ _ _ _ ht]
          refine lane_bracket hE hc _ _ _ ?_
          have e23 : (k0_pay23 (ix2 r 0)).toInt = 1 := by
            show ((1#32 : BitVec 32)).toInt = 1
            decide
          rw [SortNet.toInt_minsi, SortNet.toInt_maxsi, SortNet.toInt_maxsi, h21, h22, e23,
            show ((1#32 : BitVec 32)).toInt = 1 from by decide]
          omega
        · rw [lastLane_neg _ _ _ _ ht]
          have h := alone_of_not_tied _ ht r
          rw [h21] at h
          refine first_lane hE hc fun j hj => ?_
          have h' : (Finset.univ.filter fun k => σ k = gridVal w).card ≤ 1 := by omega
          exact Finset.card_le_one.1 h' j (by simp [hj]) c (by simp [hc])
      rw [sle_iff, lane_toInt, hlast]
      unfold ahead
      rw [hc]
      constructor
      · rintro (h | ⟨h, h'⟩)
        · exact .inr (.inl h)
        · rcases (show j.val ≤ c.val by omega).lt_or_eq with h2 | h2
          · exact .inr (.inr ⟨h, h2⟩)
          · exact .inl (Fin.ext h2)
      · rintro (h | h | ⟨h, h'⟩)
        · subst h
          exact .inr ⟨hc, le_rfl⟩
        · exact .inl h
        · refine .inr ⟨h, ?_⟩
          have : j.val < c.val := h'
          omega
    · rw [hgt]
      constructor
      · rintro (h | ⟨h, -⟩)
        · exact h
        · exact absurd h (hnone j)
      · exact .inl

end Cert.KernelIdeal.Hand
-- ==== Proof.Stages.lean ====
module

public import proofs.«01_k».proof.Defs
public import proofs.«01_k».proof.Proof.Gen.ReferenceIdeal.Run

/-!
# The reference's stages

The composed term of the reference, cut at its named stages: the softmax, the order in which the
scores are taken, the ordered scores, their running sums, the number of scores taken and the mask.
-/

@[expose] public section

set_option maxRecDepth 16384

noncomputable section

namespace Cert.ReferenceIdeal.Hand

open Cert.ReferenceIdeal Cert.ReferenceIdeal.Gen
open Idealize.ShloMosaic Idealize.ShloMosaic.TcCoe

variable {F : FTy → Type} [FloatOps F]

/-- The rows less their maxima, exponentiated. -/
def expOf (x : FVec F S128x100000 .f32) : FVec F S128x100000 .f32 :=
  Host.exp (subf x (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf x (constant S_ .f32 0xFF800000#32) reducesTo_S128x100000_S128_d1 h_S_)))))

/-- The softmax of the rows. -/
def scoresOf (x : FVec F S128x100000 .f32) : FVec F S128x100000 .f32 :=
  Host.divf (expOf x) (broadcastInDim S128x100000 ![0, 1] bcast_S128x1_S128x100000_0_1 (broadcastInDim S128x1 ![0] bcast_S128_S128x1_0 (Host.reduceAdd (expOf x) (constant S_ .f32 0x00000000#32) reducesTo_S128x100000_S128_d1 h_S_)))

/-- Which score of the row is taken at which place. -/
def orderOf (s : FVec F S128x100000 .f32) : IVec S128x100000 32 :=
  (Host.sort2 S128x100000 1 comparator_f32_i32_d1 (Host.negf s) (iotaInDim S128x100000 32 1)).2

/-- Column numbers below zero counted from the right end. -/
def wrapOf (I : IVec S128x100000 32) : IVec S128x100000 32 :=
  select (cmpi .slt I (broadcastInDim S128x100000 ![] bcast_S_S128x100000 (constantI S_ 32 0#32))) (addi I (broadcastInDim S128x100000 ![] bcast_S_S128x100000 (constantI S_ 32 100000#32))) I

/-- Whether a column number lies in the row. -/
def insideOf (J : IVec S128x100000 32) : IVec S128x100000 1 :=
  Host.reduce IntOp.andi (andi (cmpi .sge (shapeCast S128x100000x1 J shapeCasts_S128x100000_S128x100000x1) (broadcastInDim S128x100000x1 ![] bcast_S_S128x100000x1 (constantI S_ 32 0#32))) (cmpi .sle (shapeCast S128x100000x1 J shapeCasts_S128x100000_S128x100000x1) (broadcastInDim S128x100000x1 ![0, 1, 2] bcast_S1x1x1_S128x100000x1_0_1_2 (broadcastInDim S1x1x1 ![2] bcast_S1_S1x1x1_2 (constantI S1 32 99999#32))))) (constantI S_ 1 1#1) reducesTo_S128x100000x1_S128x100000_d2 h_S_

/-- The scores in the order in which they are taken. -/
def orderedOf (s : FVec F S128x100000 .f32) (J : IVec S128x100000 32) : FVec F S128x100000 .f32 :=
  select (insideOf J) (Host.gather gather_S128x100000_S128x100000x1_S128x100000_n_1_0_0_1_2_11 s (shapeCast S128x100000x1 J shapeCasts_S128x100000_S128x100000x1)) (broadcastInDim S128x100000 ![] bcast_S_S128x100000 (constant S_ .f32 0x7FC00000#32))

/-- The running sums of the rows. -/
def runningOf (o : FVec F S128x100000 .f32) : FVec F S128x100000 .f32 :=
  Host.reduceWindowAdd ![1, 100000] ![1, 1] ![0, 99999] ![0, 0] o (broadcastInDim S_ ![] bcast_S_S_ (constant S_ .f32 0x00000000#32)) reduceWindows_S128x100000_S128x100000_w1s1p0_0_w100000s1p99999_0 h_S_

/-- How many scores of each row are taken. -/
def sizesOf (q : FVec F S_ .f32) (C : FVec F S128x100000 .f32) : IVec S128 32 :=
  maxsi (select (broadcastInDim S128 ![] bcast_S_S128 (cmpf .oge q (constant S_ .f32 0x3F800000#32))) (broadcastInDim S128 ![] bcast_S_S128 (id (constantI S_ 32 100000#32))) (minsi (addi (Host.reduce IntOp.addi (extui 32 (cmpf .ole C (broadcastInDim S128x100000 ![] bcast_S_S128x100000 q)) natLt_1_32) (constantI S_ 32 0#32) reducesTo_S128x100000_S128_d1 h_S_) (broadcastInDim S128 ![] bcast_S_S128 (constantI S_ 32 1#32))) (broadcastInDim S128 ![] bcast_S_S128 (constantI S_ 32 100000#32)))) (broadcastInDim S128 ![] bcast_S_S128 (constantI S_ 32 1#32))

/-- The places below the number of scores taken. -/
def takenOf (z : IVec S128 32) : IVec S128x100000 1 :=
  cmpi .slt (broadcastInDim S128x100000 ![0, 1] bcast_S1x100000_S128x100000_0_1 (broadcastInDim S1x100000 ![1] bcast_S100000_S1x100000_1 (iotaInDim S100000 32 0))) (broadcastInDim S128x100000 ![0, 1] bcast_S128x1_S128x100000_0_1 (broadcastInDim S128x1 ![0] bcast_S128_S128x1_0 z))

/-- The row numbers, those below zero counted from the end. -/
def rowsOf : IVec S128x100000 32 :=
  broadcastInDim S128x100000 ![0, 1] bcast_S128x1_S128x100000_0_1 (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))

/-- The row and the column that each place of the order names. -/
def targetsOf (J : IVec S128x100000 32) : IVec S128x100000x2 32 :=
  concatenate S128x100000x2 2 [⟨S128x100000x1, broadcastInDim S128x100000x1 ![0, 1] bcast_S128x100000_S128x100000x1_0_1 rowsOf⟩, ⟨S128x100000x1, broadcastInDim S128x100000x1 ![0, 1] bcast_S128x100000_S128x100000x1_0_1 J⟩] concatenates_S128x100000x1_S128x100000x1_S128x100000x2_d2

/-- The mask: each place of the order writes its bit at the score it names. -/
def maskOf (J : IVec S128x100000 32) (z : IVec S128 32) : IVec S128x100000 1 :=
  Host.scatter scatter_S128x100000_S128x100000x2_S128x100000_n_01_01_2 (fun _ b => b) (broadcastInDim S128x100000 ![] bcast_S_S128x100000 (constantI S_ 1 0#1)) (targetsOf J) (takenOf z)

/-- The scores in the order in which they are taken, from the logits. -/
def sortedScores (x : FVec F S128x100000 .f32) : FVec F S128x100000 .f32 :=
  orderedOf (scoresOf x) (wrapOf (orderOf (scoresOf x)))

/-- The reference's mask, from the logits and the level. -/
def maskRef (x : FVec F S128x100000 .f32) (q : FVec F S_ .f32) : IVec S128x100000 1 :=
  maskOf (wrapOf (orderOf (scoresOf x))) (sizesOf q (runningOf (sortedScores x)))

/-- The reference's composed term is its mask. -/
theorem res_eq (m : (ℓ : Loc nD τ sig) → Buf (Elt F) ℓ) (c : Dev nD) :
    Value.res_main_v50 m c =
      maskRef (m ((c.tc : Thread nD τ).loc main_arg0)) (m ((c.tc : Thread nD τ).loc main_arg1)) := rfl

end Cert.ReferenceIdeal.Hand
-- ==== Proof.HostReads.lean ====
module

public import Idealize.ShloMosaic.Lib.Pointwise
public import Idealize.ShloMosaic.Lib.Routing.OpsPair
public import Idealize.ShloMosaic.Lib.Routing.OpsSet
public import Idealize.ShloMosaic.Lib.SortFacts

/-!
# Host operations on a matrix, read at an index, at any sizes

The row maximum, the running sum of the rows by a window, the gather along the rows, the stable sort
of the rows with a second operand, and the scatter that sets by a table of row and column words.
-/

@[expose] public section

namespace Idealize.ShloMosaic.MatrixReads

open Idealize.ShloMosaic

variable {R C : ℕ}

/-- The row maximum is the fold of `max` along the row. -/
theorem rowMax_apply (x : FVec Ideal ⟨2, ![R, C]⟩ .f32) (init : FVec Ideal ⟨0, ![]⟩ .f32)
    (h : (⟨2, ![R, C]⟩ : Shape).ReducesTo [1] ⟨1, ![R]⟩) (hu : 0 < (⟨0, ![]⟩ : Shape).numel)
    (r : Fin R) :
    Host.reduce FloatOps.maximumf x init h hu (ix1 r)
      = (Finset.univ : Finset (Fin C)).fold max (init (Shape.Idx.first hu)) fun k => x (ix2 r k) := by
  rw [Ideal.maximumf_eq_max, Host.reduce_eq_fold]
  exact h.fold_fiber_r2_a1 (ix1 r) max _ x

/-- A left fold that adds is the start plus the sum. -/
theorem foldl_add_eq_sum {n : ℕ} (f : Fin n → EReal) (v : EReal) :
    (List.finRange n).foldl (fun r k => r + f k) v = v + ∑ k, f k := by
  rw [Fin.sum_univ_def]
  generalize List.finRange n = L
  induction L generalizing v with
  | nil => simp
  | cons a L ih => rw [List.foldl_cons, ih, List.map_cons, List.sum_cons, add_assoc]

/-- The window of the row's length, padded at its start, sums the row up to and including the
position. -/
theorem running_apply (x : FVec Ideal ⟨2, ![R, C]⟩ .f32) (init : FVec Ideal ⟨0, ![]⟩ .f32)
    (h : (⟨2, ![R, C]⟩ : Shape).ReduceWindows ![1, C] ![1, 1] ![0, C - 1] ![0, 0] ⟨2, ![R, C]⟩)
    (hu : 0 < (⟨0, ![]⟩ : Shape).numel) (hi : init (Shape.Idx.first hu) = 0) (r : Fin R) (j : Fin C) :
    Host.reduceWindowAdd ![1, C] ![1, 1] ![0, C - 1] ![0, 0] x init h hu (ix2 r j)
      = ∑ k ∈ Finset.univ.filter (fun k : Fin C => k ≤ j), x (ix2 r k) := by
  show Ideal.hostReduceWindowAdd _ _ _ _ h x (init (Shape.Idx.first hu)) (ix2 r j) = _
  unfold Ideal.hostReduceWindowAdd Host.reduceWindow
  rw [hi]
  let W : Shape := ⟨2, ![1, C]⟩
  let G : W.Idx → EReal := fun w =>
    if hk : C - 1 ≤ (j : ℕ) + (w 1).val ∧ (j : ℕ) + (w 1).val - (C - 1) < C then
      x (ix2 r ⟨(j : ℕ) + (w 1).val - (C - 1), hk.2⟩) else 0
  have e1 : ∀ n : Fin W.numel, (if hin : ∀ a : Fin 2, (![0, C - 1] : Fin 2 → ℕ) a ≤
          ((ix2 r j : (⟨2, ![R, C]⟩ : Shape).Idx) a).val * (![1, 1] : Fin 2 → ℕ) a + (W.rowMajor.symm n a).val ∧
          ((ix2 r j : (⟨2, ![R, C]⟩ : Shape).Idx) a).val * (![1, 1] : Fin 2 → ℕ) a + (W.rowMajor.symm n a).val - (![0, C - 1] : Fin 2 → ℕ) a
            < (![R, C] : Fin 2 → ℕ) a
        then x (fun a => ⟨_, (hin a).2⟩) else (0 : EReal)) = G (W.rowMajor.symm n) := fun n => by
    generalize W.rowMajor.symm n = w
    have hw0 : (w 0).val = 0 := by
      have : (w 0).val < 1 := (w 0).isLt
      omega
    by_cases hk : C - 1 ≤ (j : ℕ) + (w 1).val ∧ (j : ℕ) + (w 1).val - (C - 1) < C
    · have hin : ∀ a : Fin 2, (![0, C - 1] : Fin 2 → ℕ) a ≤
          ((ix2 r j : (⟨2, ![R, C]⟩ : Shape).Idx) a).val * (![1, 1] : Fin 2 → ℕ) a + (w a).val ∧
          ((ix2 r j : (⟨2, ![R, C]⟩ : Shape).Idx) a).val * (![1, 1] : Fin 2 → ℕ) a + (w a).val - (![0, C - 1] : Fin 2 → ℕ) a
            < (![R, C] : Fin 2 → ℕ) a := by
        intro a
        match a with
        | ⟨0, _⟩ =>
          show 0 ≤ r.val * 1 + (w 0).val ∧ r.val * 1 + (w 0).val - 0 < R
          have := r.isLt
          omega
        | ⟨1, _⟩ =>
          show C - 1 ≤ j.val * 1 + (w 1).val ∧ j.val * 1 + (w 1).val - (C - 1) < C
          rw [mul_one]
          exact hk
      rw [dif_pos hin]
      show _ = (if hk : C - 1 ≤ (j : ℕ) + (w 1).val ∧ (j : ℕ) + (w 1).val - (C - 1) < C then
        x (ix2 r ⟨(j : ℕ) + (w 1).val - (C - 1), hk.2⟩) else 0)
      rw [dif_pos hk]
      congr 1
      funext a
      apply Fin.ext
      match a with
      | ⟨0, _⟩ =>
        show r.val * 1 + (w 0).val - 0 = r.val
        omega
      | ⟨1, _⟩ =>
        show j.val * 1 + (w 1).val - (C - 1) = j.val + (w 1).val - (C - 1)
        omega
    · rw [dif_neg]
      · show _ = (if hk : C - 1 ≤ (j : ℕ) + (w 1).val ∧ (j : ℕ) + (w 1).val - (C - 1) < C then
          x (ix2 r ⟨(j : ℕ) + (w 1).val - (C - 1), hk.2⟩) else 0)
        rw [dif_neg hk]
      · intro hin
        have h1 : C - 1 ≤ j.val * 1 + (w 1).val ∧ j.val * 1 + (w 1).val - (C - 1) < C := hin 1
        rw [mul_one] at h1
        exact hk h1
  refine (foldl_add_eq_sum _ _).trans ?_
  rw [zero_add]
  refine (Finset.sum_congr (g := fun n => G (W.rowMajor.symm n)) rfl fun n _ => ?_).trans ?_
  · refine Eq.trans ?_ (e1 n)
    exact dite_congr rfl (fun _ => rfl) fun _ => rfl
  rw [Equiv.sum_comp W.rowMajor.symm G, sum_idx2]
  rw [Fin.sum_univ_one]
  show ∑ w : Fin C, (if hk : C - 1 ≤ (j : ℕ) + w.val ∧ (j : ℕ) + w.val - (C - 1) < C then
        x (ix2 r ⟨(j : ℕ) + w.val - (C - 1), hk.2⟩) else 0) = _
  symm
  have hj := j.isLt
  rw [← Finset.sum_filter_add_sum_filter_not Finset.univ (fun w : Fin C => C - 1 ≤ (j : ℕ) + w.val)
    (fun w => if hk : C - 1 ≤ (j : ℕ) + w.val ∧ (j : ℕ) + w.val - (C - 1) < C then
        x (ix2 r ⟨(j : ℕ) + w.val - (C - 1), hk.2⟩) else 0)]
  rw [Finset.sum_eq_zero (s := Finset.univ.filter fun w : Fin C => ¬ C - 1 ≤ (j : ℕ) + w.val), add_zero]
  · refine Finset.sum_bij' (fun k _ => ⟨k.val + (C - 1) - j.val, ?_⟩)
      (fun w _ => ⟨j.val + w.val - (C - 1), ?_⟩) ?_ ?_ ?_ ?_ ?_
    · rename_i hk
      simp only [Finset.mem_filter, Finset.mem_univ, true_and, Fin.le_def] at hk
      omega
    · rename_i hw
      have := w.isLt
      omega
    · intro k hk
      simp only [Finset.mem_filter, Finset.mem_univ, true_and, Fin.le_def] at hk ⊢
      omega
    · intro w hw
      have := w.isLt
      simp only [Finset.mem_filter, Finset.mem_univ, true_and, Fin.le_def] at hw ⊢
      omega
    · intro k hk
      simp only [Finset.mem_filter, Finset.mem_univ, true_and, Fin.le_def] at hk
      apply Fin.ext
      show j.val + (k.val + (C - 1) - j.val) - (C - 1) = k.val
      omega
    · intro w hw
      simp only [Finset.mem_filter, Finset.mem_univ, true_and] at hw
      apply Fin.ext
      show j.val + w.val - (C - 1) + (C - 1) - j.val = w.val
      omega
    · intro k hk
      have hkl := k.isLt
      simp only [Finset.mem_filter, Finset.mem_univ, true_and, Fin.le_def] at hk
      rw [dif_pos (by show C - 1 ≤ j.val + (k.val + (C - 1) - j.val) ∧ j.val + (k.val + (C - 1) - j.val) - (C - 1) < C; omega)]
      congr 2
      apply Fin.ext
      show k.val = j.val + (k.val + (C - 1) - j.val) - (C - 1)
      omega
  · intro w hw
    simp only [Finset.mem_filter, Finset.mem_univ, true_and] at hw
    rw [dif_neg (fun h => hw h.1)]

/-- The dimension numbers of a gather along the rows, one column word for each element. -/
abbrev alongDims (R C : ℕ)
    (wf : GatherDims.WF ⟨2, ![R, C]⟩ ⟨3, ![R, C, 1]⟩ ⟨2, ![R, C]⟩ [] [1] [0] [1] [0] 2 ![1, 1]) :
    GatherDims ⟨2, ![R, C]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- The gather along the rows at a column word that names a column of the row. -/
theorem along_apply {α : Type}
    (wf : GatherDims.WF ⟨2, ![R, C]⟩ ⟨3, ![R, C, 1]⟩ ⟨2, ![R, C]⟩ [] [1] [0] [1] [0] 2 ![1, 1])
    (x : (⟨2, ![R, C]⟩ : Shape).Idx → α) (idx : IVec ⟨3, ![R, C, 1]⟩ 32) (r : Fin R) (j k : Fin C)
    (hk : (idx (ix3 r j 0)).toInt = k.val) :
    Host.gather (alongDims R C wf) x idx (ix2 r j) = x (ix2 r k) := by
  unfold Host.gather
  congr 1
  funext a
  refine Fin.ext ?_
  show (alongDims R C wf).start (ix2 r j) idx a + (alongDims R C wf).batchCoord (ix2 r j) a
      + (alongDims R C wf).offCoord (ix2 r j) a = _
  match a with
  | ⟨1, _⟩ =>
    show (alongDims R C wf).start (ix2 r j) idx 1 + (alongDims R C wf).batchCoord (ix2 r j) 1
      + (alongDims R C wf).offCoord (ix2 r j) 1 = k.val
    rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R C wf).startIndexMap from List.mem_singleton.mpr rfl)]
    have hsi : (alongDims R C wf).siIdx (ix2 r j) ⟨List.idxOf (1 : Fin 2) (alongDims R C wf).startIndexMap,
        List.idxOf_lt_length_iff.2 (List.mem_singleton.mpr rfl)⟩ = ix3 r j 0 := by
      funext b
      refine Fin.ext ?_
      match b with
      | ⟨0, _⟩ => rfl
      | ⟨1, _⟩ => rfl
      | ⟨2, _⟩ => rfl
    rw [hsi, hk]
    show min (k.val : ℤ).toNat (C - 1) = k.val
    have := k.isLt
    omega
  | ⟨0, _⟩ =>
    show (alongDims R C wf).start (ix2 r j) idx 0 + (alongDims R C wf).batchCoord (ix2 r j) 0
      + (alongDims R C wf).offCoord (ix2 r j) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

/-- The second operand of a stable sort of the rows: read at the place the row's order gives. -/
theorem sort2_snd_apply {α β : Type} (cmp : α × β → α × β → BitVec 1)
    (x : (⟨2, ![R, C]⟩ : Shape).Idx → α) (y : (⟨2, ![R, C]⟩ : Shape).Idx → β) (r : Fin R) (j : Fin C) :
    (Host.sort2 ⟨2, ![R, C]⟩ 1 cmp x y).2 (ix2 r j)
      = y (ix2 r (sortedFrom (fun k k' : Fin C =>
          cmp (x (ix2 r k), y (ix2 r k)) (x (ix2 r k'), y (ix2 r k')) == 1#1) j)) := by
  have e : ∀ k : Fin C, (ix2 r j : (⟨2, ![R, C]⟩ : Shape).Idx).along (1 : Fin 2) k = ix2 r k := fun k => by
    funext a
    match a with
    | ⟨0, _⟩ => rfl
    | ⟨1, _⟩ => rfl
  show y ((ix2 r j : (⟨2, ![R, C]⟩ : Shape).Idx).along (1 : Fin 2) (sortedFrom (fun k k' : Fin C =>
    cmp (x ((ix2 r j : (⟨2, ![R, C]⟩ : Shape).Idx).along (1 : Fin 2) k), y ((ix2 r j : (⟨2, ![R, C]⟩ : Shape).Idx).along (1 : Fin 2) k))
      (x ((ix2 r j : (⟨2, ![R, C]⟩ : Shape).Idx).along (1 : Fin 2) k'), y ((ix2 r j : (⟨2, ![R, C]⟩ : Shape).Idx).along (1 : Fin 2) k')) == 1#1) j)) = _
  simp only [e]
  exact congrArg y (e _)

/-- The scatter that sets, where the words of the table name every element of the row at most once:
the element that place `p` of row `r` names takes that place's update. -/
theorem scatter_apply {α : Type} (d : ScatterDims ⟨2, ![R, C]⟩ ⟨3, ![R, C, 2]⟩ ⟨2, ![R, C]⟩)
    (hiw : d.insertedWindowDims = [0, 1]) (hsd : d.scatterDimsToOperandDims = [0, 1])
    (hivd : d.indexVectorDim = 2) (x : (⟨2, ![R, C]⟩ : Shape).Idx → α) (idx : IVec ⟨3, ![R, C, 2]⟩ 32)
    (upd : (⟨2, ![R, C]⟩ : Shape).Idx → α) (π : Fin R → Fin C → Fin C)
    (hπ : ∀ r, Function.Injective (π r))
    (h0 : ∀ r j, (idx (ix3 r j 0)).toInt = r.val) (h1 : ∀ r j, (idx (ix3 r j 1)).toInt = (π r j).val)
    (r : Fin R) (p : Fin C) :
    Host.scatter d (fun _ b => b) x idx upd (ix2 r (π r p)) = upd (ix2 r p) := by
  have key : ∀ (a : Fin R) (b : Fin C),
      d.resultIdx? (ix2 a b) idx = some (ix2 r (π r p)) ↔ a = r ∧ b = p := fun a b => by
    have := Routing.scatter_lands2 d hiw hsd hivd idx a b r (π r p)
    rw [show (ValueIdx.ix2 a b : (⟨2, ![R, C]⟩ : Shape).Idx) = ix2 a b from rfl,
      show (ValueIdx.ix2 r (π r p) : (⟨2, ![R, C]⟩ : Shape).Idx) = ix2 r (π r p) from rfl,
      show (ValueIdx.ix3 a b 0 : (⟨3, ![R, C, 2]⟩ : Shape).Idx) = ix3 a b 0 from rfl,
      show (ValueIdx.ix3 a b 1 : (⟨3, ![R, C, 2]⟩ : Shape).Idx) = ix3 a b 1 from rfl, h0, h1] at this
    rw [this]
    constructor
    · rintro ⟨e, e'⟩
      have ea : a = r := Fin.ext (by exact_mod_cast e)
      subst ea
      exact ⟨rfl, hπ a (Fin.ext (by exact_mod_cast e'))⟩
    · rintro ⟨rfl, rfl⟩
      exact ⟨rfl, rfl⟩
  apply Routing.scatter_set_hit d x idx upd _ _ _ (ix2 r p) ((key r p).2 ⟨rfl, rfl⟩)
  intro k hk
  rw [eq_ix2 k] at hk ⊢
  obtain ⟨e, e'⟩ := (key _ _).1 hk
  rw [e, e']

end Idealize.ShloMosaic.MatrixReads
-- ==== Proof.StableRank.lean ====
module

public import proofs.«01_k».proof.Proof.Rank
public import Idealize.ShloMosaic.Lib.SortFacts

/-!
# The stable order of a row, and the number of scores taken

A stable sort that puts greater scores first puts the scores in the order `ahead`. The running sum at
a place is the sum before the score at that place and the score itself, and the places whose score is
taken are those below the number of running sums that are at most `Q`, plus one.
-/

@[expose] public section

namespace Cert.KernelIdeal.Hand

open Idealize.ShloMosaic

variable {n : ℕ} {σ : Fin n → ℝ}

/-- Inserting a position that stands left of all those listed keeps the list in the order `ahead`. -/
theorem insert_ahead (before : Fin n → Fin n → Bool) (hb : ∀ k k', before k k' = true ↔ σ k' < σ k)
    (a : Fin n) (l : List (Fin n)) (ha : ∀ b ∈ l, a < b) (hl : l.Pairwise (ahead σ)) :
    (insertBefore before a l).Pairwise (ahead σ) := by
  induction l with
  | nil => simp [insertBefore]
  | cons b l ih =>
    rw [List.pairwise_cons] at hl
    have hab : a < b := ha b (by simp)
    unfold insertBefore
    by_cases h : before b a = true
    · rw [if_pos h, List.pairwise_cons]
      refine ⟨?_, ih (fun c hc => ha c (List.mem_cons_of_mem _ hc)) hl.2⟩
      intro c hc
      rw [(perm_insertBefore before a l).mem_iff, List.mem_cons] at hc
      rcases hc with rfl | hc
      · exact .inl ((hb _ _).1 h)
      · exact hl.1 c hc
    · rw [if_neg h, List.pairwise_cons, List.pairwise_cons]
      have hle : σ b ≤ σ a := not_lt.1 fun h' => h ((hb _ _).2 h')
      have h1 : ahead σ a b := by
        rcases hle.lt_or_eq with h' | h'
        · exact .inl h'
        · exact .inr ⟨h'.symm, hab⟩
      refine ⟨?_, hl⟩
      intro c hc
      rw [List.mem_cons] at hc
      rcases hc with rfl | hc
      · exact h1
      · exact ahead_trans h1 (hl.1 c hc)

theorem stableSort_ahead (before : Fin n → Fin n → Bool) (hb : ∀ k k', before k k' = true ↔ σ k' < σ k)
    (l : List (Fin n)) (hl : l.Pairwise (· < ·)) : (stableSort before l).Pairwise (ahead σ) := by
  induction l with
  | nil => simp [stableSort]
  | cons a l ih =>
    rw [List.pairwise_cons] at hl
    unfold stableSort
    apply insert_ahead before hb
    · intro b hb'
      rw [(perm_stableSort before l).mem_iff] at hb'
      exact hl.1 b hb'
    · exact ih hl.2

/-- The stable sort puts the scores in the order `ahead`. -/
theorem sortedFrom_ahead (before : Fin n → Fin n → Bool)
    (hb : ∀ k k', before k k' = true ↔ σ k' < σ k) {p q : Fin n} (hpq : p < q) :
    ahead σ (sortedFrom before p) (sortedFrom before q) := by
  have h := stableSort_ahead before hb (List.finRange n) (List.pairwise_lt_finRange n)
  rw [List.pairwise_iff_get] at h
  unfold sortedFrom
  apply h
  exact hpq

/-- The place order is the order `ahead`. -/
theorem sortedFrom_ahead_iff (before : Fin n → Fin n → Bool)
    (hb : ∀ k k', before k k' = true ↔ σ k' < σ k) (p q : Fin n) :
    ahead σ (sortedFrom before p) (sortedFrom before q) ↔ p < q := by
  refine ⟨fun h => ?_, sortedFrom_ahead before hb⟩
  by_contra hn
  rcases (not_lt.1 hn).lt_or_eq with h' | h'
  · exact ahead_irrefl _ (ahead_trans h (sortedFrom_ahead before hb h'))
  · subst h'
    exact ahead_irrefl _ h

open scoped Classical in
/-- The running sum at a place. -/
theorem running_eq (π : Fin n → Fin n) (hπ : Function.Bijective π)
    (hord : ∀ p q, ahead σ (π p) (π q) ↔ p < q) (p : Fin n) :
    ∑ q ∈ Finset.univ.filter (fun q => q ≤ p), σ (π q) = above σ (π p) + σ (π p) := by
  unfold above
  have hset : (Finset.univ.filter fun k => ahead σ k (π p)) =
      (Finset.univ.filter fun q => q < p).map ⟨π, hπ.1⟩ := by
    ext k
    obtain ⟨q, rfl⟩ := hπ.2 k
    simp only [Finset.mem_filter, Finset.mem_univ, true_and, Finset.mem_map, Function.Embedding.coeFn_mk]
    rw [hord]
    constructor
    · intro h
      exact ⟨q, h, rfl⟩
    · rintro ⟨q', h, e⟩
      rwa [← hπ.1 e]
  have hset2 : (Finset.univ.filter fun q => q ≤ p) = insert p (Finset.univ.filter fun q => q < p) := by
    ext q
    simp only [Finset.mem_filter, Finset.mem_univ, true_and, Finset.mem_insert]
    rw [le_iff_eq_or_lt]
  rw [hset, hset2, Finset.sum_insert (by simp), Finset.sum_map, add_comm]
  rfl

/-- The sums before the scores at two places one apart. -/
theorem above_next (hpos : ∀ i, 0 < σ i) (π : Fin n → Fin n) (hπ : Function.Bijective π)
    (hord : ∀ p q, ahead σ (π p) (π q) ↔ p < q) (p q : Fin n) (hpq : q.val = p.val + 1) :
    above σ (π q) = above σ (π p) + σ (π p) := by
  classical
  rw [← running_eq π hπ hord p]
  have := running_eq π hπ hord q
  have hset : (Finset.univ.filter fun k => k ≤ q) = insert q (Finset.univ.filter fun k => k ≤ p) := by
    ext k
    simp only [Finset.mem_filter, Finset.mem_univ, true_and, Finset.mem_insert, Fin.le_def, Fin.ext_iff]
    omega
  rw [hset, Finset.sum_insert (by
    rw [Finset.mem_filter]
    rintro ⟨-, h⟩
    rw [Fin.le_def] at h
    omega)] at this
  linarith

/-- A property of places closed downwards holds of the first so many places. -/
theorem lt_card_iff (P : Fin n → Prop) [DecidablePred P] (hP : ∀ p q, p ≤ q → P q → P p) (p : Fin n) :
    p.val < (Finset.univ.filter P).card ↔ P p := by
  constructor
  · intro h
    by_contra hp
    have : (Finset.univ.filter P).card ≤ (Finset.univ.filter fun q : Fin n => q < p).card := by
      apply Finset.card_le_card
      intro q hq
      simp only [Finset.mem_filter, Finset.mem_univ, true_and] at hq ⊢
      by_contra hn
      exact hp (hP p q (not_lt.1 hn) hq)
    rw [Finset.filter_gt_eq_Iio, Fin.card_Iio] at this
    omega
  · intro h
    have : (Finset.univ.filter fun q : Fin n => q ≤ p).card ≤ (Finset.univ.filter P).card := by
      apply Finset.card_le_card
      intro q hq
      simp only [Finset.mem_filter, Finset.mem_univ, true_and] at hq ⊢
      exact hP q p hq h
    rw [Finset.filter_ge_eq_Iic, Fin.card_Iic] at this
    omega

/-- The places whose score is taken: at most as many running sums are at most `Q` as there are places
before. -/
theorem place_taken_iff (hpos : ∀ i, 0 < σ i) (π : Fin n → Fin n) (hπ : Function.Bijective π)
    (hord : ∀ p q, ahead σ (π p) (π q) ↔ p < q) {Q : ℝ} (hQ : 0 ≤ Q) (C : Fin n → Prop)
    [DecidablePred C] (hC : ∀ q, C q ↔ above σ (π q) + σ (π q) ≤ Q) (p : Fin n) :
    p.val ≤ (Finset.univ.filter C).card ↔ above σ (π p) ≤ Q := by
  classical
  have hdown : ∀ p q, p ≤ q → C q → C p := by
    intro p q hpq hq
    rw [hC] at hq ⊢
    rcases hpq.lt_or_eq with h | h
    · have := above_add_le hpos ((hord p q).2 h)
      have := hpos (π q)
      linarith
    · rw [h]; exact hq
  rcases Nat.eq_zero_or_pos p.val with h0 | h0
  · have hz : above σ (π p) = 0 := by
      unfold above
      rw [Finset.filter_eq_empty_iff.2, Finset.sum_empty]
      intro k _ hk
      obtain ⟨q, rfl⟩ := hπ.2 k
      have := (hord q p).1 hk
      rw [Fin.lt_def] at this
      omega
    rw [hz, h0]
    simp [hQ]
  · let q : Fin n := ⟨p.val - 1, by have := p.isLt; omega⟩
    have hpq : p.val = q.val + 1 := by show p.val = p.val - 1 + 1; omega
    rw [above_next hpos π hπ hord q p hpq, ← hC, ← lt_card_iff C hdown q]
    omega

end Cert.KernelIdeal.Hand
-- ==== Proof.RefReads.lean ====
module

public import proofs.«01_k».proof.Proof.Stages
public import proofs.«01_k».proof.Proof.HostReads
public import proofs.«01_k».proof.Proof.Softmax
public import proofs.«01_k».proof.Proof.StableRank
public import Idealize.ShloMosaic.Lib.IndicatorCount
public import Idealize.ShloMosaic.Lib.ReduceAll
public import Idealize.ShloMosaic.Lib.WordArith
public import Idealize.ShloMosaic.Lib.SortNet.Extract

/-!
# The reference's stages read at an index, at the ideal instance
-/

@[expose] public section

set_option maxRecDepth 16384

noncomputable section

namespace Cert.ReferenceIdeal.Hand

open Cert.ReferenceIdeal Cert.ReferenceIdeal.Gen
open Idealize.ShloMosaic
open Cert.KernelIdeal.Hand (ahead above)

/-- The bits of minus infinity. -/
theorem ofBits_least : Ideal.ofBits .f32 0xFF800000#32 = ⊥ := by
  simp [Ideal.ofBits, Ideal.ieee]

theorem constant_least (i : S_.Idx) : (constant S_ .f32 0xFF800000#32 : FVec Ideal S_ .f32) i = ⊥ :=
  ofBits_least

/-- The row maximum of a matrix of any sizes. -/
theorem rowMax_top {R C : ℕ} (x : FVec Ideal ⟨2, ![R, C]⟩ .f32) (init : FVec Ideal ⟨0, ![]⟩ .f32)
    (h : (⟨2, ![R, C]⟩ : Shape).ReducesTo [1] ⟨1, ![R]⟩) (hu : 0 < (⟨0, ![]⟩ : Shape).numel)
    (hi : init (Shape.Idx.first hu) = ⊥) (r : Fin R) :
    Host.reduce FloatOps.maximumf x init h hu (ix1 r) = SoftmaxRow.top fun k => x (ix2 r k) := by
  rw [MatrixReads.rowMax_apply, hi]
  rfl

/-- The row sum of a matrix of any sizes. -/
theorem rowSum_apply {R C : ℕ} (x : FVec Ideal ⟨2, ![R, C]⟩ .f32) (init : FVec Ideal ⟨0, ![]⟩ .f32)
    (h : (⟨2, ![R, C]⟩ : Shape).ReducesTo [1] ⟨1, ![R]⟩) (hu : 0 < (⟨0, ![]⟩ : Shape).numel)
    (hi : init (Shape.Idx.first hu) = 0) (r : Fin R) :
    Host.reduceAdd x init h hu (ix1 r) = ∑ k, x (ix2 r k) := by
  show Ideal.hostReduceAdd h x (init (Shape.Idx.first hu)) (ix1 r) = _
  rw [Ideal.hostReduceAdd_r2_a1, hi, zero_add]
  rfl

theorem maxOf_apply (x : FVec Ideal S128x100000 .f32) (r : Fin 128) :
    Host.reduce FloatOps.maximumf x (constant S_ .f32 0xFF800000#32) reducesTo_S128x100000_S128_d1 h_S_ (ix1 r)
      = SoftmaxRow.top fun k => x (ix2 r k) :=
  rowMax_top x _ _ _ (constant_least _) r

theorem sumOf_apply (x : FVec Ideal S128x100000 .f32) (r : Fin 128) :
    Host.reduceAdd x (constant S_ .f32 0x00000000#32) reducesTo_S128x100000_S128_d1 h_S_ (ix1 r)
      = ∑ k, x (ix2 r k) :=
  rowSum_apply x _ _ _ Ideal.ofBits_zero_f32 r

/-- The row count of a mask of any sizes. -/
theorem rowCount_apply {R C : ℕ} (x : IVec ⟨2, ![R, C]⟩ 32) (init : IVec ⟨0, ![]⟩ 32)
    (h : (⟨2, ![R, C]⟩ : Shape).ReducesTo [1] ⟨1, ![R]⟩) (hu : 0 < (⟨0, ![]⟩ : Shape).numel)
    (hi : init (Shape.Idx.first hu) = 0#32) (r : Fin R) (b : Fin C → BitVec 1)
    (hb : ∀ k, x (ix2 r k) = (b k).setWidth 32) :
    Host.reduce IntOp.addi x init h hu (ix1 r)
      = BitVec.ofNat 32 (Finset.univ.filter fun k => b k = 1#1).card := by
  rw [Host.reduce_eq_fold, hi, ← IndicatorCount.fold_addi_setWidth_eq_card]
  refine (h.fold_fiber_r2_a1 (ix1 r) IntOp.addi _ x).trans ?_
  congr 1
  funext k
  exact hb k

/-- A column of row values, repeated along the rows. -/
theorem column_apply {α : Type} (M : S128.Idx → α) (r : Fin 128) (j : Fin 100000) :
    broadcastInDim S128x100000 ![0, 1] bcast_S128x1_S128x100000_0_1
      (broadcastInDim S128x1 ![0] bcast_S128_S128x1_0 M) (ix2 r j) = M (ix1 r) := by
  pointwise

theorem atLeast_apply (M : FVec Ideal S128 .f32) (r : Fin 128) :
    (maximumf (broadcastInDim S128 ![] bcast_S_S128 (constant S_ .f32 0xFF800000#32)) M) (ix1 r) = M (ix1 r) := by
  show max (Ideal.ofBits .f32 0xFF800000#32) (M (ix1 r)) = _
  rw [ofBits_least, max_eq_right bot_le]

theorem expSub_apply (x B : FVec Ideal S128x100000 .f32) (i : S128x100000.Idx) :
    Host.exp (subf x B) i = Ideal.exp (x i - B i) := rfl

theorem divf_apply (x B : FVec Ideal S128x100000 .f32) (i : S128x100000.Idx) :
    Host.divf x B i = Ideal.div (x i) (B i) := rfl

/-- The logits less their row's maximum, exponentiated. -/
theorem expOf_apply (x : FVec Ideal S128x100000 .f32) (r : Fin 128) (j : Fin 100000) :
    expOf x (ix2 r j) = Ideal.exp (x (ix2 r j) - SoftmaxRow.top fun k => x (ix2 r k)) := by
  unfold expOf
  rw [expSub_apply, column_apply, atLeast_apply, maxOf_apply]

/-- The reference's scores are the softmax of the row. -/
theorem scoresOf_apply (x : FVec Ideal S128x100000 .f32) (r : Fin 128) (j : Fin 100000) :
    scoresOf x (ix2 r j) = SoftmaxRow.soft (fun k => x (ix2 r k)) j := by
  unfold scoresOf
  rw [divf_apply, column_apply, sumOf_apply]
  simp only [expOf_apply]
  rfl

/-! ### The order of the scores -/

theorem canon_eq (x z n : EReal) :
    Scalar.select (FloatOps.cmpf (F := Ideal) (φ := .f32) .une x x) n
      (Scalar.select (FloatOps.cmpf (F := Ideal) (φ := .f32) .oeq x z) z x) = x := by
  show Scalar.select (BitVec.ofBool (decide (x ≠ x))) n (Scalar.select (BitVec.ofBool (decide (x = z))) z x) = x
  rw [WordCmp.select_decide, WordCmp.select_decide, if_neg (by simp)]
  split
  · next h => exact h.symm
  · rfl

/-- The sort's comparison of two negated scores: the first is the greater. -/
theorem comparator_iff (a b : ℝ) (u v : BitVec 32) :
    (comparator_f32_i32_d1 (F := Ideal) (-(a : EReal), u) (-(b : EReal), v) == 1#1) = true ↔ b < a := by
  have e : comparator_f32_i32_d1 (F := Ideal) (-(a : EReal), u) (-(b : EReal), v)
      = BitVec.ofBool (decide (-(a : EReal) < -(b : EReal))) := by
    unfold comparator_f32_i32_d1
    dsimp only
    rw [canon_eq, canon_eq]
    rfl
  rw [e]
  have h' : -(a : EReal) < -(b : EReal) ↔ b < a := by rw [EReal.neg_lt_neg_iff, EReal.coe_lt_coe_iff]
  by_cases h : b < a
  · rw [decide_eq_true (h'.2 h)]
    exact ⟨fun _ => h, fun _ => rfl⟩
  · rw [decide_eq_false (fun h2 => h (h'.1 h2))]
    exact ⟨fun h2 => absurd h2 (by decide), fun h2 => absurd h2 h⟩

/-- Which score of row `r` is taken at which place. -/
def place (s : FVec Ideal S128x100000 .f32) (r : Fin 128) : Fin 100000 → Fin 100000 :=
  sortedFrom fun k k' => comparator_f32_i32_d1 (F := Ideal) (Host.negf s (ix2 r k), iotaInDim S128x100000 32 1 (ix2 r k))
    (Host.negf s (ix2 r k'), iotaInDim S128x100000 32 1 (ix2 r k')) == 1#1

theorem orderOf_apply (s : FVec Ideal S128x100000 .f32) (r : Fin 128) (j : Fin 100000) :
    orderOf s (ix2 r j) = BitVec.ofNat 32 (place s r j).val :=
  MatrixReads.sort2_snd_apply (R := 128) (C := 100000) comparator_f32_i32_d1 (Host.negf s)
    (iotaInDim S128x100000 32 1) r j

theorem place_bijective (s : FVec Ideal S128x100000 .f32) (r : Fin 128) : Function.Bijective (place s r) :=
  ⟨sortedFrom_injective _, sortedFrom_surjective _⟩

/-- The places follow the order `ahead` of the scores. -/
theorem place_ahead (s : FVec Ideal S128x100000 .f32) (r : Fin 128) (σ : Fin 100000 → ℝ)
    (hs : ∀ k, s (ix2 r k) = (σ k : EReal)) (p q : Fin 100000) :
    ahead σ (place s r p) (place s r q) ↔ p < q := by
  refine Cert.KernelIdeal.Hand.sortedFrom_ahead_iff _ (fun k k' => ?_) p q
  have h : ∀ k, Host.negf s (ix2 r k) = -(σ k : EReal) := fun k => by
    rw [← hs]; rfl
  rw [h, h]
  exact comparator_iff _ _ _ _

/-! ### The column numbers -/

/-- `J` holds the column numbers `π`. -/
def Names (J : IVec S128x100000 32) (π : Fin 128 → Fin 100000 → Fin 100000) : Prop :=
  ∀ r j, J (ix2 r j) = BitVec.ofNat 32 (π r j).val

theorem Names.toInt {J : IVec S128x100000 32} {π} (h : Names J π) (r j) : (J (ix2 r j)).toInt = (π r j).val := by
  rw [h r j]
  exact StableHlo.Predicate.toInt_ofNat_small _ (by have := (π r j).isLt; omega)

theorem wrapOf_names {I : IVec S128x100000 32} {π} (h : Names I π) : Names (wrapOf I) π := fun r j => by
  show Scalar.select (IntOp.cmpi .slt (I (ix2 r j)) 0#32) (IntOp.addi (I (ix2 r j)) 100000#32) (I (ix2 r j)) = _
  rw [Routing.wrap_of_lt, h r j]
  rw [h r j, BitVec.toNat_ofNat]
  have := (π r j).isLt
  omega

theorem insideOf_names {J : IVec S128x100000 32} {π} (h : Names J π) (i : S128x100000.Idx) : insideOf J i = 1#1 := by
  unfold insideOf
  refine Host.reduce_andi_one _ _ _ _ _ rfl fun k => ?_
  show IntOp.andi (IntOp.cmpi .sge (J (Shape.reshapeEquiv shapeCasts_S128x100000_S128x100000x1 k)) 0#32)
    (IntOp.cmpi .sle (J (Shape.reshapeEquiv shapeCasts_S128x100000_S128x100000x1 k)) 99999#32) = 1#1
  generalize (Shape.reshapeEquiv shapeCasts_S128x100000_S128x100000x1 k : S128x100000.Idx) = w
  have e := h.toInt (w 0) (w 1)
  rw [← eq_ix2 w] at e
  have hl : (π (w 0) (w 1)).val < 100000 := (π (w 0) (w 1)).isLt
  rw [IntOp.andi_eq_one]
  constructor
  · show BitVec.ofBool ((0#32 : BitVec 32).sle (J w)) = 1#1
    rw [show (0#32 : BitVec 32).sle (J w) = true by
      rw [BitVec.sle_eq_decide, decide_eq_true_iff, e]
      show (0 : ℤ) ≤ _
      omega]
    rfl
  · show BitVec.ofBool ((J w).sle 99999#32) = 1#1
    rw [show (J w).sle 99999#32 = true by
      rw [BitVec.sle_eq_decide, decide_eq_true_iff, e]
      show _ ≤ (99999 : ℤ)
      omega]
    rfl

theorem cast_apply {α : Type} (J : S128x100000.Idx → α) (r : Fin 128) (j : Fin 100000) :
    shapeCast S128x100000x1 J shapeCasts_S128x100000_S128x100000x1 (ix3 r j 0) = J (ix2 r j) := by
  pointwise

theorem orderedOf_apply (s : FVec Ideal S128x100000 .f32) {J : IVec S128x100000 32} {π} (h : Names J π)
    (r : Fin 128) (j : Fin 100000) : orderedOf s J (ix2 r j) = s (ix2 r (π r j)) := by
  have e : orderedOf s J (ix2 r j) = Scalar.select (insideOf J (ix2 r j))
      (Host.gather gather_S128x100000_S128x100000x1_S128x100000_n_1_0_0_1_2_11 s
        (shapeCast S128x100000x1 J shapeCasts_S128x100000_S128x100000x1) (ix2 r j))
      (Ideal.ofBits .f32 0x7FC00000#32) := rfl
  rw [e, insideOf_names h, WordCmp.select_of_eq_one rfl]
  refine MatrixReads.along_apply (R := 128) (C := 100000) _ s _ r j (π r j) ?_
  rw [cast_apply]
  exact h.toInt r j

theorem runningOf_apply (o : FVec Ideal S128x100000 .f32) (r : Fin 128) (j : Fin 100000) :
    runningOf o (ix2 r j) = ∑ k ∈ Finset.univ.filter (fun k : Fin 100000 => k ≤ j), o (ix2 r k) :=
  MatrixReads.running_apply (R := 128) (C := 100000) o _ _ _ Ideal.ofBits_zero_f32 r j

/-! ### The mask -/

theorem rowsOf_apply (r : Fin 128) (j : Fin 100000) : rowsOf (ix2 r j) = BitVec.ofNat 32 r.val := by
  unfold rowsOf
  have e : ∀ r : Fin 128, (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0)))
      (ix2 r 0) = BitVec.ofNat 32 r.val := fun r => by
    show Scalar.select (IntOp.cmpi .slt (BitVec.ofNat 32 r.val) 0#32) (IntOp.addi (BitVec.ofNat 32 r.val) 128#32) (BitVec.ofNat 32 r.val) = _
    rw [Routing.wrap_of_lt]
    rw [BitVec.toNat_ofNat]
    have := r.isLt
    omega
  generalize (select (cmpi .slt (broadcastInDim S128x1 ![0] bcast_S128_S128x1_0 (iotaInDim S128 32 0)) (broadcastInDim S128x1 ![] bcast_S_S128x1 (constantI S_ 32 0#32))) (addi (broadcastInDim S128x1 ![0] bcast_S128_S128x1_0 (iotaInDim S128 32 0)) (broadcastInDim S128x1 ![] bcast_S_S128x1 (constantI S_ 32 128#32))) (broadcastInDim S128x1 ![0] bcast_S128_S128x1_0 (iotaInDim S128 32 0))) = D at e
  rw [← e r]
  pointwise

theorem takenOf_apply (z : IVec S128 32) (r : Fin 128) (j : Fin 100000) :
    takenOf z (ix2 r j) = IntOp.cmpi .slt (BitVec.ofNat 32 j.val) (z (ix1 r)) := by
  have e : takenOf z (ix2 r j) = IntOp.cmpi .slt (broadcastInDim S128x100000 ![0, 1] bcast_S1x100000_S128x100000_0_1 (broadcastInDim S1x100000 ![1] bcast_S100000_S1x100000_1 (iotaInDim S100000 32 0)) (ix2 r j))
      (broadcastInDim S128x100000 ![0, 1] bcast_S128x1_S128x100000_0_1 (broadcastInDim S128x1 ![0] bcast_S128_S128x1_0 z) (ix2 r j)) := rfl
  rw [e, column_apply]
  rfl

theorem targetsOf_row (J : IVec S128x100000 32) (r : Fin 128) (j : Fin 100000) :
    targetsOf J (ix3 r j 0) = rowsOf (ix2 r j) := by
  unfold targetsOf
  generalize rowsOf = A
  pointwise

theorem targetsOf_column (J : IVec S128x100000 32) (r : Fin 128) (j : Fin 100000) :
    targetsOf J (ix3 r j 1) = J (ix2 r j) := by
  unfold targetsOf
  generalize rowsOf = A
  pointwise

theorem maskOf_apply {J : IVec S128x100000 32} {π} (h : Names J π) (hπ : ∀ r, Function.Injective (π r))
    (z : IVec S128 32) (r : Fin 128) (p : Fin 100000) :
    maskOf J z (ix2 r (π r p)) = IntOp.cmpi .slt (BitVec.ofNat 32 p.val) (z (ix1 r)) := by
  unfold maskOf
  rw [← takenOf_apply]
  refine MatrixReads.scatter_apply (R := 128) (C := 100000) scatter_S128x100000_S128x100000x2_S128x100000_n_01_01_2
    rfl rfl rfl _ (targetsOf J) (takenOf z) π hπ (fun r j => ?_) (fun r j => ?_) r p
  · rw [targetsOf_row, rowsOf_apply]
    exact StableHlo.Predicate.toInt_ofNat_small _ (by have := r.isLt; omega)
  · rw [targetsOf_column]
    exact h.toInt r j

/-! ### The number of scores taken -/

theorem level_apply (q : FVec Ideal S_ .f32) (i : S_.Idx) : q i = q ix0 := by
  congr 1
  funext a
  exact a.elim0

theorem spread_apply {α : Type} (q : S_.Idx → α) (i : S128.Idx) :
    broadcastInDim S128 ![] bcast_S_S128 q i = q ix0 := by
  unfold broadcastInDim
  congr 1
  funext a
  exact a.elim0

theorem spread2_apply {α : Type} (q : S_.Idx → α) (i : S128x100000.Idx) :
    broadcastInDim S128x100000 ![] bcast_S_S128x100000 q i = q ix0 := by
  unfold broadcastInDim
  congr 1
  funext a
  exact a.elim0

/-- The number of running sums of row `r` that are at most the level. -/
def below (q : FVec Ideal S_ .f32) (C : FVec Ideal S128x100000 .f32) (r : Fin 128) : ℕ :=
  (Finset.univ.filter fun k : Fin 100000 => C (ix2 r k) ≤ q ix0).card

theorem below_le (q : FVec Ideal S_ .f32) (C : FVec Ideal S128x100000 .f32) (r : Fin 128) : below q C r ≤ 100000 := by
  refine (Finset.card_le_univ _).trans ?_
  rw [Fintype.card_fin]

theorem ofBool_decide_one (p : Prop) [Decidable p] : BitVec.ofBool (decide p) = 1#1 ↔ p := by
  by_cases h : p
  · simp [h]
  · simp [h]

theorem sizesOf_apply (q : FVec Ideal S_ .f32) (C : FVec Ideal S128x100000 .f32) (r : Fin 128) :
    sizesOf q C (ix1 r) = IntOp.maxsi (if 1 ≤ q ix0 then 100000#32
      else IntOp.minsi (IntOp.addi (BitVec.ofNat 32 (below q C r)) 1#32) 100000#32) 1#32 := by
  have e : sizesOf q C (ix1 r) = IntOp.maxsi
      (Scalar.select (broadcastInDim S128 ![] bcast_S_S128 (cmpf .oge q (constant S_ .f32 0x3F800000#32)) (ix1 r)) 100000#32
        (IntOp.minsi (IntOp.addi (Host.reduce IntOp.addi (extui 32 (cmpf .ole C (broadcastInDim S128x100000 ![] bcast_S_S128x100000 q)) natLt_1_32) (constantI S_ 32 0#32) reducesTo_S128x100000_S128_d1 h_S_ (ix1 r)) 1#32) 100000#32)) 1#32 := rfl
  rw [e, spread_apply]
  have e1 : cmpf .oge q (constant S_ .f32 0x3F800000#32) ix0 = BitVec.ofBool (decide (Ideal.ofBits .f32 0x3F800000#32 ≤ q ix0)) := rfl
  rw [e1, Ideal.ofBits_one_f32, WordCmp.select_decide]
  have e2 : Host.reduce IntOp.addi (extui 32 (cmpf .ole C (broadcastInDim S128x100000 ![] bcast_S_S128x100000 q)) natLt_1_32) (constantI S_ 32 0#32) reducesTo_S128x100000_S128_d1 h_S_ (ix1 r)
      = BitVec.ofNat 32 (below q C r) := by
    refine (rowCount_apply (R := 128) (C := 100000) _ _ _ _ rfl r
      (fun k => BitVec.ofBool (decide (C (ix2 r k) ≤ broadcastInDim S128x100000 ![] bcast_S_S128x100000 q (ix2 r k)))) (fun k => rfl)).trans ?_
    unfold below
    refine congrArg (fun s : Finset (Fin 100000) => BitVec.ofNat 32 s.card) (Finset.filter_congr fun k _ => ?_)
    rw [ofBool_decide_one, spread2_apply]
  rw [e2]

theorem slt_iff (p c : ℕ) (full : Prop) [Decidable full] (hp : p < 100000) (hc : c ≤ 100000) :
    IntOp.cmpi .slt (BitVec.ofNat 32 p) (IntOp.maxsi (if full then 100000#32
      else IntOp.minsi (IntOp.addi (BitVec.ofNat 32 c) 1#32) 100000#32) 1#32) = 1#1 ↔ full ∨ p ≤ c := by
  have hpi := StableHlo.Predicate.toInt_ofNat_small p (by omega)
  have key : ∀ z : BitVec 32, IntOp.cmpi .slt (BitVec.ofNat 32 p) z = 1#1 ↔ (p : ℤ) < z.toInt := fun z => by
    rw [← hpi]
    show BitVec.ofBool (BitVec.slt _ _) = 1#1 ↔ _
    rw [BitVec.slt_eq_decide]
    exact ofBool_decide_one _
  rw [key]
  by_cases hf : full
  · rw [if_pos hf, show (IntOp.maxsi 100000#32 1#32 : BitVec 32) = 100000#32 from by decide]
    rw [show ((100000#32 : BitVec 32)).toInt = 100000 from by decide]
    exact ⟨fun _ => .inl hf, fun _ => by omega⟩
  · rw [if_neg hf]
    have ha : IntOp.addi (BitVec.ofNat 32 c) 1#32 = BitVec.ofNat 32 (c + 1) := by
      show BitVec.ofNat 32 c + 1#32 = _
      rw [← BitVec.ofNat_add]
    rw [ha]
    have hci := StableHlo.Predicate.toInt_ofNat_small (c + 1) (by omega)
    have h1 : (100000#32 : BitVec 32).toInt = 100000 := by decide
    have h2 : (1#32 : BitVec 32).toInt = 1 := by decide
    rw [SortNet.toInt_maxsi, SortNet.toInt_minsi, hci, h1, h2]
    push_cast
    constructor
    · intro h
      right
      omega
    · rintro (h | h)
      · exact absurd h hf
      · omega

/-! ### The reference's mask of scores that are real -/

section
variable (x : FVec Ideal S128x100000 .f32) (σ : Fin 128 → Fin 100000 → ℝ)
  (hs : ∀ r j, scoresOf x (ix2 r j) = (σ r j : EReal))
include hs

theorem sortedScores_apply (r : Fin 128) (p : Fin 100000) :
    sortedScores x (ix2 r p) = (σ r (place (scoresOf x) r p) : EReal) := by
  unfold sortedScores
  rw [orderedOf_apply _ (wrapOf_names (π := place (scoresOf x)) fun r j => orderOf_apply _ r j), hs]

theorem runningSums_apply (r : Fin 128) (p : Fin 100000) :
    runningOf (sortedScores x) (ix2 r p)
      = ((above (σ r) (place (scoresOf x) r p) + σ r (place (scoresOf x) r p) : ℝ) : EReal) := by
  classical
  rw [runningOf_apply, ← Cert.KernelIdeal.Hand.running_eq (place (scoresOf x) r) (place_bijective _ r)
    (place_ahead _ r (σ r) (hs r)) p, SoftmaxRow.coe_sum]
  refine Finset.sum_congr (Finset.filter_congr_decidable _ _ _) fun k _ => ?_
  exact sortedScores_apply x σ hs r k

/-- The reference takes a score when the level is at least one, or when the sum of the scores ahead of it
is at most the level. -/
theorem maskRef_iff (hpos : ∀ r j, 0 < σ r j) (q : FVec Ideal S_ .f32) (hq : 0 ≤ q ix0) (r : Fin 128) (i : Fin 100000) :
    maskRef x q (ix2 r i) = 1#1 ↔ 1 ≤ q ix0 ∨ (above (σ r) i : EReal) ≤ q ix0 := by
  obtain ⟨p, rfl⟩ := (place_bijective (scoresOf x) r).2 i
  unfold maskRef
  rw [maskOf_apply (wrapOf_names (π := place (scoresOf x)) fun r j => orderOf_apply _ r j)
    (fun r => (place_bijective _ r).1), sizesOf_apply, slt_iff _ _ _ p.isLt (below_le _ _ _)]
  by_cases h1 : 1 ≤ q ix0
  · simp [h1]
  · simp only [h1, false_or]
    have hQ : ∃ Q : ℝ, q ix0 = (Q : EReal) := by
      refine ⟨(q ix0).toReal, (EReal.coe_toReal ?_ ?_).symm⟩
      · rintro h; rw [h] at h1; exact h1 le_top
      · rintro h; rw [h] at hq; exact absurd hq (by simp)
    obtain ⟨Q, hQ⟩ := hQ
    rw [hQ, EReal.coe_le_coe_iff]
    rw [hQ] at hq
    unfold below
    refine Cert.KernelIdeal.Hand.place_taken_iff (hpos r) _ (place_bijective _ r) (place_ahead _ r (σ r) (hs r))
      (by exact_mod_cast hq) (fun k => runningOf (sortedScores x) (ix2 r k) ≤ q ix0) (fun k => ?_) p
    rw [hQ, runningSums_apply x σ hs r k, EReal.coe_le_coe_iff]

end

end Cert.ReferenceIdeal.Hand
-- ==== Proof.Precondition.lean ====
module

public import proofs.«01_k».proof.Pre_separated
public import proofs.«01_k».proof.Proof.RefReads
public import proofs.«01_k».proof.Proof.Grid
public import proofs.«01_k».proof.Proof.Rank

/-!
# What the precondition says

The facts the precondition's text states, and its meaning: the logits are finite, the level is not
negative, and the score on which the running sum passes the level stands apart from the next score or
is a multiple of `2 ^ (-24)`.
-/

@[expose] public section

set_option maxRecDepth 16384

noncomputable section

namespace Cert.Pre_separated.Hand

open Cert.Pre_separated
open Idealize.ShloMosaic

/-- The facts the precondition's text states. -/
instance facts : Cert.Pre_separated.Facts where
  reducesTo_S128x100000_S128_d1 := by decide
  h_S_ := by decide
  bcast_S_S128 := by decide
  bcast_S128_S128x1_0 := by decide
  bcast_S128x1_S128x100000_0_1 := by decide
  bcast_S_S128x100000 := by decide
  shapeCasts_S128x100000_S128x100000x1 := by decide
  bcast_S_S128x100000x1 := by decide
  bcast_S1_S1x1x1_2 := by decide
  bcast_S1x1x1_S128x100000x1_0_1_2 := by decide
  reducesTo_S128x100000x1_S128x100000_d2 := by decide
  bcast_S_S_ := by decide
  reduceWindows_S128x100000_S128x100000_w1s1p0_0_w100000s1p99999_0 := by decide
  slices_S128x100000_S128x99999_0_0 := by decide
  slices_S128x100000_S128x99999_0_1 := by decide
  bcast_S_S128x99999 := by decide
  reducesTo_S128x100000_S_d0_1 := by decide
  reducesTo_S128x99999_S_d0_1 := by decide
  gather_S128x100000_S128x100000x1_S128x100000_n_1_0_0_1_2_11_wf := by decide

open Facts Cert.ReferenceIdeal.Hand

/-- The precondition over the reference's own stages. -/
theorem fn_eq (x : FVec Ideal S128x100000 .f32) (q : FVec Ideal S_ .f32) :
    fn (F := Ideal) x q = fn_part1 (F := Ideal) x q
      (extractStridedSlice S128x99999 ![0, 0] (sortedScores x) slices_S128x100000_S128x99999_0_0)
      (extractStridedSlice S128x99999 ![0, 1] (sortedScores x) slices_S128x100000_S128x99999_0_1)
      (cmpf .ogt (extractStridedSlice S128x99999 ![0, 0] (runningOf (sortedScores x)) slices_S128x100000_S128x99999_0_0)
        (broadcastInDim S128x99999 ![] bcast_S_S128x99999 q))
      (extractStridedSlice S128x99999 ![0, 0] (runningOf (sortedScores x)) slices_S128x100000_S128x99999_0_0) := rfl

/-! ## The constants -/

theorem ofBits_relGap : Ideal.ofBits .f32 0x34000000#32 = (((2 : ℝ) ^ (-23 : ℤ) : ℝ) : EReal) := by
  rw [show Ideal.ofBits .f32 0x34000000#32 = Ideal.ieee 8 23 0x34000000#32 from rfl,
    Cert.KernelIdeal.Hand.ieee_gridVal _ (by decide)]
  congr 1
  unfold Cert.KernelIdeal.Hand.gridVal Cert.KernelIdeal.Hand.expo
  norm_num

theorem ofBits_absGap : Ideal.ofBits .f32 0x00000001#32 = (((2 : ℝ) ^ (-149 : ℤ) : ℝ) : EReal) := by
  rw [show Ideal.ofBits .f32 0x00000001#32 = Ideal.ieee 8 23 0x00000001#32 from rfl,
    Cert.KernelIdeal.Hand.ieee_gridVal _ (by decide)]
  congr 1
  unfold Cert.KernelIdeal.Hand.gridVal Cert.KernelIdeal.Hand.expo
  norm_num

theorem ofBits_scale : Ideal.ofBits .f32 0x4B800000#32 = (((2 : ℝ) ^ 24 : ℝ) : EReal) := by
  rw [show Ideal.ofBits .f32 0x4B800000#32 = Ideal.ieee 8 23 0x4B800000#32 from rfl,
    Cert.KernelIdeal.Hand.ieee_gridVal _ (by decide)]
  congr 1
  unfold Cert.KernelIdeal.Hand.gridVal Cert.KernelIdeal.Hand.expo
  norm_num

theorem ofBits_top : Ideal.ofBits .f32 0x7F800000#32 = ⊤ := by
  simp [Ideal.ofBits, Ideal.ieee]

/-! ## The precondition's tests at an index -/

instance : Subsingleton S_.Idx := ⟨fun a b => funext fun i => i.elim0⟩

theorem level_spread (q : FVec Ideal S_ .f32) (i : S128x99999.Idx) :
    broadcastInDim S128x99999 ![] bcast_S_S128x99999 q i = q ix0 := by
  unfold broadcastInDim
  congr 1
  funext a
  exact a.elim0

/-- What the tests say at each index, over the two shifted copies of the ordered scores, the test of
the running sums and the running sums. -/
theorem part1_spec (x : FVec Ideal S128x100000 .f32) (q : FVec Ideal S_ .f32) (s0 s1 : FVec Ideal S128x99999 .f32)
    (v19 : IVec S128x99999 1) (v20 : FVec Ideal S128x99999 .f32)
    (h : fn_part1 (F := Ideal) x q s0 s1 v19 v20 = fun _ => 1#1) :
    (∀ i, max (x i) (-(x i)) < ⊤) ∧ 0 ≤ q ix0
      ∧ ∀ i, (¬ (v19 i = 1#1 ∧ v20 i - s0 i ≤ q ix0)
        ∨ s1 i ≤ s0 i - s0 i * (((2 : ℝ) ^ (-23 : ℤ) : ℝ) : EReal) - (((2 : ℝ) ^ (-149 : ℤ) : ℝ) : EReal))
        ∨ s0 i * (((2 : ℝ) ^ 24 : ℝ) : EReal) = Ideal.liftRound Int.floor (s0 i * (((2 : ℝ) ^ 24 : ℝ) : EReal)) := by
  have h0 := congrFun h ix0
  unfold fn_part1 fn_part2 at h0
  obtain ⟨h1, h2⟩ := IntOp.andi_eq_one.1 h0
  obtain ⟨h3, h4⟩ := IntOp.andi_eq_one.1 h1
  refine ⟨fun i => ?_, ?_, fun i => ?_⟩
  · have e := Host.reduce_andi_all _ _ _ _ _ h3 i
    have e' : BitVec.ofBool (decide (max (x i) (-(x i)) < Ideal.ofBits .f32 0x7F800000#32)) = 1#1 := e
    rw [ofBool_decide_one, ofBits_top] at e'
    exact e'
  · have e' : BitVec.ofBool (decide (Ideal.ofBits .f32 0x00000000#32 ≤ q ix0)) = 1#1 := h4
    rw [ofBool_decide_one, Ideal.ofBits_zero_f32] at e'
    exact e'
  · have e := Host.reduce_andi_all _ _ _ _ _ h2 i
    rcases IntOp.ori_eq_one.1 e with e | e
    · left
      rcases IntOp.ori_eq_one.1 e with e | e
      · left
        have e' := IntOp.not_eq_one.1 e
        rintro ⟨ha, hb⟩
        refine e' (IntOp.andi_eq_one.2 ⟨ha, ?_⟩)
        show BitVec.ofBool (decide (v20 i - s0 i ≤ broadcastInDim S128x99999 ![] bcast_S_S128x99999 q i)) = 1#1
        rw [ofBool_decide_one, level_spread]
        exact hb
      · right
        have e' : BitVec.ofBool (decide (s1 i ≤ s0 i - s0 i * Ideal.ofBits .f32 0x34000000#32 - Ideal.ofBits .f32 0x00000001#32)) = 1#1 := e
        rw [ofBool_decide_one, ofBits_relGap, ofBits_absGap] at e'
        exact e'
    · right
      have e' : BitVec.ofBool (decide (s0 i * Ideal.ofBits .f32 0x4B800000#32
        = Ideal.liftRound Int.floor (s0 i * Ideal.ofBits .f32 0x4B800000#32))) = 1#1 := e
      rw [ofBool_decide_one, ofBits_scale] at e'
      exact e'

theorem greater_apply (a b : FVec Ideal S128x99999 .f32) (i : S128x99999.Idx) :
    cmpf .ogt a b i = BitVec.ofBool (decide (b i < a i)) := rfl

/-- Place `p` of a row, and the place after it. -/
theorem slice_here {α : Type} (v : S128x100000.Idx → α) (r : Fin 128) (p : Fin 99999) :
    extractStridedSlice S128x99999 ![0, 0] v slices_S128x100000_S128x99999_0_0 (ix2 r p)
      = v (ix2 r ⟨p.val, by omega⟩) := by
  unfold extractStridedSlice
  congr 1
  funext a
  refine Fin.ext ?_
  fin_cases a <;> simp

theorem slice_next {α : Type} (v : S128x100000.Idx → α) (r : Fin 128) (p : Fin 99999) :
    extractStridedSlice S128x99999 ![0, 1] v slices_S128x100000_S128x99999_0_1 (ix2 r p)
      = v (ix2 r ⟨p.val + 1, by omega⟩) := by
  unfold extractStridedSlice
  congr 1
  funext a
  refine Fin.ext ?_
  fin_cases a <;> simp [Nat.add_comm]

open Cert.KernelIdeal.Hand (ahead above ahead_le Apart)

/-- Under the precondition the logits are real and the level is not negative. -/
theorem finite (x : FVec Ideal S128x100000 .f32) (q : FVec Ideal S_ .f32)
    (h : fn (F := Ideal) x q = fun _ => 1#1) : (∀ i, ∃ a : ℝ, x i = (a : EReal)) ∧ 0 ≤ q ix0 := by
  rw [fn_eq] at h
  obtain ⟨h1, h2, _⟩ := part1_spec _ _ _ _ _ _ h
  refine ⟨fun i => ?_, h2⟩
  have hi := h1 i
  rw [max_lt_iff] at hi
  refine ⟨(x i).toReal, (EReal.coe_toReal hi.1.ne ?_).symm⟩
  intro hb
  rw [hb, EReal.neg_bot] at hi
  exact lt_irrefl _ hi.2

/-- Under the precondition the score on which the running sum passes the level stands apart from the
scores taken after it, or is a multiple of `2 ^ (-24)`. -/
theorem apart (x : FVec Ideal S128x100000 .f32) (q : FVec Ideal S_ .f32)
    (h : fn (F := Ideal) x q = fun _ => 1#1) (σ : Fin 128 → Fin 100000 → ℝ)
    (hs : ∀ r j, scoresOf x (ix2 r j) = (σ r j : EReal)) (r : Fin 128) (Q : ℝ) (hQ : q ix0 = (Q : EReal))
    (c : Fin 100000) (hc : above (σ r) c ≤ Q) (hc' : Q < above (σ r) c + σ r c) : Apart (σ r) c := by
  rw [fn_eq] at h
  obtain ⟨_, _, h3⟩ := part1_spec _ _ _ _ _ _ h
  obtain ⟨p, rfl⟩ := (place_bijective (scoresOf x) r).2 c
  by_cases hp : p.val < 99999
  · have hk := h3 (ix2 r ⟨p.val, hp⟩)
    have hcut : (cmpf .ogt (extractStridedSlice S128x99999 ![0, 0] (runningOf (sortedScores x)) slices_S128x100000_S128x99999_0_0)
        (broadcastInDim S128x99999 ![] bcast_S_S128x99999 q)) (ix2 r ⟨p.val, hp⟩) = 1#1 := by
      rw [greater_apply, ofBool_decide_one, level_spread, slice_here, runningSums_apply x σ hs, hQ, EReal.coe_lt_coe_iff]
      exact hc'
    rw [slice_here, slice_here, slice_next, runningSums_apply x σ hs, sortedScores_apply x σ hs,
      sortedScores_apply x σ hs, hQ, ← EReal.coe_sub, EReal.coe_le_coe_iff, ← EReal.coe_mul, ← EReal.coe_sub,
      ← EReal.coe_sub, EReal.coe_le_coe_iff, ← EReal.coe_mul, Ideal.liftRound_coe, EReal.coe_eq_coe_iff] at hk
    rcases hk with (hk | hk) | hk
    · refine absurd ⟨hcut, ?_⟩ hk
      show above (σ r) (place (scoresOf x) r p) + σ r (place (scoresOf x) r p) - σ r (place (scoresOf x) r p) ≤ Q
      linarith
    · refine Or.inl fun i hi => ?_
      obtain ⟨p', rfl⟩ := (place_bijective (scoresOf x) r).2 i
      have hlt := (place_ahead (scoresOf x) r (σ r) (hs r) _ _).1 hi
      refine le_trans ?_ hk
      have hlt' : p.val < p'.val := hlt
      rcases Nat.lt_or_ge (p.val + 1) p'.val with h1 | h1
      · exact ahead_le ((place_ahead (scoresOf x) r (σ r) (hs r) ⟨p.val + 1, by omega⟩ p').2 h1)
      · have : p' = ⟨p.val + 1, by omega⟩ := Fin.ext (by show p'.val = p.val + 1; omega)
        rw [this]
    · exact Or.inr ⟨_, hk⟩
  · refine Or.inl fun i hi => ?_
    obtain ⟨p', rfl⟩ := (place_bijective (scoresOf x) r).2 i
    have hlt : p.val < p'.val := (place_ahead (scoresOf x) r (σ r) (hs r) _ _).1 hi
    have := p'.isLt
    omega

end Cert.Pre_separated.Hand
-- ==== Proof.Algebraic.lean ====
module

public import proofs.«01_k».proof.Proof.Frames
public import proofs.«01_k».proof.Proof.Result
public import proofs.«01_k».proof.Proof.KernelRow
public import proofs.«01_k».proof.Proof.Precondition

/-!
# The kernel's results are the reference's

Under the precondition both programs return the logits unchanged and one mask: the scores above which
the sum of all greater scores, ties counted from the left, is at most the level.
-/

@[expose] public section

set_option maxRecDepth 16384

noncomputable section

namespace Cert.Proof

open Idealize.ShloMosaic Idealize.ShloMosaic.TcCoe Idealize.SL.Sem
open Cert.KernelIdeal.Hand Cert.ReferenceIdeal.Hand

/-- A bit of the kernel's mask is set where the word the launch wrote is not zero. -/
theorem maskKernel_iff (x : FVec Ideal Cert.KernelIdeal.S128x100000 .f32) (q : EReal) (R : Fin 128) (k : Fin 100000) :
    maskKernel (F := Ideal) x q (ix2 R k) = 1#1
      ↔ maskOut (F := Ideal) q (rowsOf (F := Ideal) x (blockOf R)) (ix2 (inBlock R) k) ≠ 0#8 := by
  have e : maskKernel (F := Ideal) x q (ix2 R k)
      = IntOp.cmpi .ne (maskOut (F := Ideal) q (rowsOf (F := Ideal) x (blockOf R)) (ix2 (inBlock R) k)) 0#8 := rfl
  rw [e]
  generalize maskOut (F := Ideal) q (rowsOf (F := Ideal) x (blockOf R)) (ix2 (inBlock R) k) = w
  revert w
  decide

/-- Two bits are equal when they are set together. -/
theorem bit_ext {a b : BitVec 1} (h : a = 1#1 ↔ b = 1#1) : a = b := by
  revert a b
  decide

/-- Under the precondition the two masks agree at every score. -/
theorem mask_eq_at (x : FVec Ideal Cert.Pre_separated.S128x100000 .f32) (q : FVec Ideal Cert.Pre_separated.S_ .f32)
    (h : Cert.Pre_separated.fn (F := Ideal) x q = fun _ => 1#1) (R : Fin 128) (k : Fin 100000) :
    maskKernel (F := Ideal) x (q ix0) (ix2 R k) = maskRef (F := Ideal) x q (ix2 R k) := by
  obtain ⟨hx, hq⟩ := Cert.Pre_separated.Hand.finite x q h
  have hrow : ∀ r : Fin 128, ∃ σ : Fin 100000 → ℝ,
      (∀ j, SoftmaxRow.soft (fun k => x (ix2 r k)) j = (σ j : EReal)) ∧ (∀ j, 0 < σ j) ∧ ∑ j, σ j = 1 := fun r => by
    choose a ha using fun j : Fin 100000 => hx (ix2 r j)
    exact SoftmaxRow.soft_real (by decide) _ a ha
  choose σ hσ hpos hsum using hrow
  have hs : ∀ r j, scoresOf (F := Ideal) x (ix2 r j) = (σ r j : EReal) := fun r j =>
    (scoresOf_apply x r j).trans (hσ r j)
  refine bit_ext ?_
  rw [maskKernel_iff, maskRef_iff x σ hs hpos q hq]
  refine mask_iff (q ix0) (rowsOf (F := Ideal) x (blockOf R)) (inBlock R) (σ R) (fun j => ?_) (hpos R) (hsum R) hq
    (fun Q hQ c h1 h2 => Cert.Pre_separated.Hand.apart x q h σ hs R Q hQ c h1 h2) k
  rw [← hσ R j]
  have e : (fun k => rowsOf (F := Ideal) x (blockOf R) (ix2 (inBlock R) k)) = fun k => x (ix2 R k) := by
    funext k
    show x (ix2 (rowAt (blockOf R) (inBlock R)) k) = _
    rw [rowAt_blockOf]
  rw [e]

/-- So they are one mask. -/
theorem mask_eq (x : FVec Ideal Cert.Pre_separated.S128x100000 .f32) (q : FVec Ideal Cert.Pre_separated.S_ .f32)
    (h : Cert.Pre_separated.fn (F := Ideal) x q = fun _ => 1#1) :
    maskKernel (F := Ideal) x (q ix0) = maskRef (F := Ideal) x q := by
  funext i
  have e : (ix2 (i 0) (i 1) : Cert.KernelIdeal.S128x100000.Idx) = i := by
    funext a
    match a with
    | ⟨0, _⟩ => rfl
    | ⟨1, _⟩ => rfl
  have := mask_eq_at x q h (i 0) (i 1)
  rwa [e] at this

attribute [local irreducible] maskKernel maskRef

/-- Under the precondition the kernel at the ideal instance returns the reference's results. -/
theorem algebraic : Cert.algebraic_KernelIdeal_ReferenceIdeal_pre_separated := by
  intro m g m' g' hpre hargs
  refine ⟨fun c => m ((c.tc : Thread Cert.KernelIdeal.nD Cert.KernelIdeal.τ).loc Cert.KernelIdeal.main_arg0),
    fun c => maskKernel (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1) ix0),
    run_read (F := Ideal) m g, ?_⟩
  refine (θ_run Cert.ReferenceIdeal.defs _ _).mono (fun r h c => ?_) (Cert.ReferenceIdeal.Value.run (F := Ideal) m' g')
  obtain ⟨h0, h1⟩ := hargs c
  have hk := h c
  refine ⟨hk.2.2.1.trans h0, ?_, hk.2.2⟩
  refine hk.2.1.trans ?_
  rw [res_eq, h0, h1]
  exact (mask_eq _ _ (hpre c)).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate's claim. -/
theorem claim : Cert.Claim := ⟨Cert.Kernel.Gen.facts, Cert.KernelIdeal.Gen.facts, Cert.ReferenceIdeal.Gen.facts,
  Cert.Pre_separated.Hand.facts, frame_kernel, frame_kernelIdeal, fun m g _ => frame_kernelIdeal m g trivial,
  frame_referenceIdeal, fun m g _ => frame_referenceIdeal m g trivial, trivial, algebraic⟩

end Cert.Proof

end
